-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_as_set_up [hPre_tables_as_set_up : Cert.Pre_tables_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_tables_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tables_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_tables_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_tables_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_as_set_up [hPre_tables_as_set_up : Cert.Pre_tables_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tables_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_tables_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_tables_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tables_as_set_up [hKernelIdeal : Cert.KernelIdeal.Facts] [hPre_tables_as_set_up : Cert.Pre_tables_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tables_as_set_up [hReferenceIdeal : Cert.ReferenceIdeal.Facts] [hPre_tables_as_set_up : Cert.Pre_tables_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_f" .f32 0x3B2AAAAB#32 ((1 / 384 : ℝ) : EReal)

def algebraic_KernelIdeal_ReferenceIdeal_pre_tables_as_set_up [hKernelIdeal : Cert.KernelIdeal.Facts] [hReferenceIdeal : Cert.ReferenceIdeal.Facts] [hPre_tables_as_set_up : Cert.Pre_tables_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tables_as_set_up : Cert.Pre_tables_as_set_up.Facts),
    quiescent_Kernel (hKernel := hKernel)
    ∧ quiescent_KernelIdeal (hKernelIdeal := hKernelIdeal)
    ∧ quiescent_KernelIdeal_pre_tables_as_set_up (hKernelIdeal := hKernelIdeal) (hPre_tables_as_set_up := hPre_tables_as_set_up)
    ∧ quiescent_ReferenceIdeal (hReferenceIdeal := hReferenceIdeal)
    ∧ quiescent_ReferenceIdeal_pre_tables_as_set_up (hReferenceIdeal := hReferenceIdeal) (hPre_tables_as_set_up := hPre_tables_as_set_up)
    ∧ preserves_Kernel_KernelIdeal
    ∧ algebraic_KernelIdeal_ReferenceIdeal_pre_tables_as_set_up (hKernelIdeal := hKernelIdeal) (hReferenceIdeal := hReferenceIdeal) (hPre_tables_as_set_up := hPre_tables_as_set_up)
-- ==== Pre_tables_as_set_up.lean ====
abbrev S1024x128x16 : Shape := ⟨3, ![1024, 128, 16]⟩
abbrev S65536x24 : Shape := ⟨2, ![65536, 24]⟩
abbrev S384 : Shape := ⟨1, ![384]⟩
abbrev S_ : Shape := ⟨0, ![]⟩

class Facts : Prop where
  bcast_S_S65536x24 : S_.BroadcastsInDim S65536x24 (![] : Fin 0 → Fin S65536x24.rank)
  bcast_S_S1024x128x16 : S_.BroadcastsInDim S1024x128x16 (![] : Fin 0 → Fin S1024x128x16.rank)
  bcast_S_S384 : S_.BroadcastsInDim S384 (![] : Fin 0 → Fin S384.rank)

variable [Facts]

def fn {F : FTy → Type} [FloatOps F] (main_arg0 : IVec S1024x128x16 32) (main_arg1 : FVec F S65536x24 .f32) (main_arg2 : FVec F S384 .f32) (main_arg3 : FVec F S384 .f32) : IVec S1024x128x16 1 × IVec S65536x24 1 × IVec S384 1 × IVec S384 1 :=
  let main_v0 : IVec S65536x24 32 := iotaInDim S65536x24 32 0
  let main_v1 : IVec S65536x24 32 := iotaInDim S65536x24 32 1
  let main_v2 : IVec S65536x24 32 := Host.shrsi main_v0 main_v1
  let main_c : IVec S_ 32 := constantI S_ 32 1#32
  let main_v3 : IVec S65536x24 32 := broadcastInDim S65536x24 ![] bcast_S_S65536x24 main_c
  let main_v4 : IVec S65536x24 32 := andi main_v2 main_v3
  let main_v5 : FVec F S65536x24 .f32 := sitofp .f32 main_v4
  let main_c_0 : IVec S_ 32 := constantI S_ 32 0#32
  let main_v6 : IVec S1024x128x16 32 := broadcastInDim S1024x128x16 ![] bcast_S_S1024x128x16 main_c_0
  let main_v7 : IVec S1024x128x16 1 := cmpi .sge main_arg0 main_v6
  let main_c_1 : IVec S_ 32 := constantI S_ 32 65536#32
  let main_v8 : IVec S1024x128x16 32 := broadcastInDim S1024x128x16 ![] bcast_S_S1024x128x16 main_c_1
  let main_v9 : IVec S1024x128x16 1 := cmpi .slt main_arg0 main_v8
  let main_v10 : IVec S1024x128x16 1 := andi main_v7 main_v9
  let main_v11 : IVec S65536x24 1 := cmpf .oeq main_arg1 main_v5
  let main_cst : FVec F S_ .f32 := constant S_ .f32 0x3F800000#32
  let main_v12 : FVec F S384 .f32 := broadcastInDim S384 ![] bcast_S_S384 main_cst
  let main_v13 : IVec S384 1 := cmpf .oeq main_arg2 main_v12
  let main_cst_2 : FVec F S_ .f32 := constant S_ .f32 0x00000000#32
  let main_v14 : FVec F S384 .f32 := broadcastInDim S384 ![] bcast_S_S384 main_cst_2
  let main_v15 : IVec S384 1 := cmpf .oeq main_arg3 main_v14
  (main_v10, main_v11, main_v13, main_v15)
-- ==== Kernel.lean ====
abbrev S1024x128x16 : Shape := ⟨3, ![1024, 128, 16]⟩
abbrev S65536x24 : Shape := ⟨2, ![65536, 24]⟩
abbrev S384 : Shape := ⟨1, ![384]⟩
abbrev S1024x128x384 : Shape := ⟨3, ![1024, 128, 384]⟩
abbrev S4x32x128x16 : Shape := ⟨4, ![4, 32, 128, 16]⟩
abbrev S4x32x128x384 : Shape := ⟨4, ![4, 32, 128, 384]⟩
abbrev S4 : Shape := ⟨1, ![4]⟩
abbrev S1 : Shape := ⟨1, ![1]⟩
abbrev S_ : Shape := ⟨0, ![]⟩
abbrev S1x32x128x16 : Shape := ⟨4, ![1, 32, 128, 16]⟩
abbrev S32x128x16 : Shape := ⟨3, ![32, 128, 16]⟩
abbrev S32x128 : Shape := ⟨2, ![32, 128]⟩
abbrev S32x128x1 : Shape := ⟨3, ![32, 128, 1]⟩
abbrev S32x128x32 : Shape := ⟨3, ![32, 128, 32]⟩
abbrev S32x384 : Shape := ⟨2, ![32, 384]⟩
abbrev S32x128x384 : Shape := ⟨3, ![32, 128, 384]⟩
abbrev S1x32x128x384 : Shape := ⟨4, ![1, 32, 128, 384]⟩

abbrev nBuf : Space → Nat
  | .hbm => 5
  | .vmem => 2
  | .smem => 0
  | _ => 0

abbrev bufTy : (tb : Table) → Fin (tcTables nBuf tb) → BufTy
  | .hbm, ⟨0, _⟩ => ⟨S1024x128x16, .i32⟩
  | .hbm, ⟨1, _⟩ => ⟨S65536x24, .f32⟩
  | .hbm, ⟨2, _⟩ => ⟨S384, .f32⟩
  | .hbm, ⟨3, _⟩ => ⟨S384, .f32⟩
  | .hbm, ⟨4, _⟩ => ⟨S1024x128x384, .f32⟩
  | .local _ .vmem, ⟨0, _⟩ => ⟨S4x32x128x16, .i32⟩
  | .local _ .vmem, ⟨1, _⟩ => ⟨S4x32x128x384, .f32⟩
  | _, _ => ⟨S1024x128x16, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none

@[reducible] def k0_t1_loop : Scf.Loop 32 :=
  let c1_i32_277 : BitVec 32 := 1#32
  let c6_i32 : BitVec 32 := 6#32
  let v572 : BitVec 32 := Scalar.addi c1_i32_277 c6_i32
  let c1_i32_278 : BitVec 32 := 1#32
  ⟨c1_i32_277, v572, c1_i32_278⟩
def k0_off1 (k0_t1 : Fin k0_t1_loop.trips) (c0_i32_572 : BitVec 32) : Fin 3 → Nat :=
  let c1_i32_277 : BitVec 32 := 1#32
  let c1_i32_278 : BitVec 32 := 1#32
  let arg6 : BitVec 32 := Scf.iv c1_i32_277 c1_i32_278 k0_t1
  let c4_i32 : BitVec 32 := 4#32
  let v1145 : BitVec 32 := Scalar.muli arg6 c4_i32
  let v1146 : BitVec 32 := Scalar.addi v1145 c0_i32_572
  let c32_i32_573 : BitVec 32 := 32#32
  let v1147 : BitVec 32 := Scalar.muli v1146 c32_i32_573
  let c0_i32_579 : BitVec 32 := 0#32
  let c0_i32_580 : BitVec 32 := 0#32
  ![v1147.toNat, 0, 0]
def k0_off2 (k0_t1 : Fin k0_t1_loop.trips) (c0_i32_572 : BitVec 32) : Fin 3 → Nat :=
  let c1_i32_277 : BitVec 32 := 1#32
  let c1_i32_278 : BitVec 32 := 1#32
  let arg6 : BitVec 32 := Scf.iv c1_i32_277 c1_i32_278 k0_t1
  let c4_i32 : BitVec 32 := 4#32
  let v1145 : BitVec 32 := Scalar.muli arg6 c4_i32
  let v1146 : BitVec 32 := Scalar.addi v1145 c0_i32_572
  let c4_i32_581 : BitVec 32 := 4#32
  let v1153 : BitVec 32 := Scalar.subi v1146 c4_i32_581
  let c32_i32_582 : BitVec 32 := 32#32
  let v1154 : BitVec 32 := Scalar.muli v1153 c32_i32_582
  let c0_i32_585 : BitVec 32 := 0#32
  let c0_i32_586 : BitVec 32 := 0#32
  ![v1154.toNat, 0, 0]
def k0_off3 (k0_t1 : Fin k0_t1_loop.trips) (c0_i32_572 : BitVec 32) : Fin 3 → Nat :=
  let c1_i32_277 : BitVec 32 := 1#32
  let c1_i32_278 : BitVec 32 := 1#32
  let arg6 : BitVec 32 := Scf.iv c1_i32_277 c1_i32_278 k0_t1
  let c4_i32 : BitVec 32 := 4#32
  let v1145 : BitVec 32 := Scalar.muli arg6 c4_i32
  let v1146 : BitVec 32 := Scalar.addi v1145 c0_i32_572
  let c32_i32_633 : BitVec 32 := 32#32
  let v1283 : BitVec 32 := Scalar.muli v1146 c32_i32_633
  let c0_i32_636 : BitVec 32 := 0#32
  let c0_i32_637 : BitVec 32 := 0#32
  ![v1283.toNat, 0, 0]
def k0_off4 (k0_t1 : Fin k0_t1_loop.trips) (c0_i32_572 : BitVec 32) : Fin 3 → Nat :=
  let c1_i32_277 : BitVec 32 := 1#32
  let c1_i32_278 : BitVec 32 := 1#32
  let arg6 : BitVec 32 := Scf.iv c1_i32_277 c1_i32_278 k0_t1
  let c4_i32 : BitVec 32 := 4#32
  let v1145 : BitVec 32 := Scalar.muli arg6 c4_i32
  let v1146 : BitVec 32 := Scalar.addi v1145 c0_i32_572
  let c4_i32_641 : BitVec 32 := 4#32
  let v1289 : BitVec 32 := Scalar.addi v1146 c4_i32_641
  let c32_i32_642 : BitVec 32 := 32#32
  let v1290 : BitVec 32 := Scalar.muli v1289 c32_i32_642
  let c0_i32_648 : BitVec 32 := 0#32
  let c0_i32_649 : BitVec 32 := 0#32
  ![v1290.toNat, 0, 0]
-- ==== KernelIdeal.lean ====
variable {F : FTy → Type} [FloatOps F] [Named F]
def κ : String → Option EReal := fun
  | "inv_f" => some ((1 / 384 : ℝ) : EReal)
  | _ => none
-- ==== ReferenceIdeal.lean ====
abbrev S1024x128x16 : Shape := ⟨3, ![1024, 128, 16]⟩
abbrev S65536x24 : Shape := ⟨2, ![65536, 24]⟩
abbrev S384 : Shape := ⟨1, ![384]⟩
abbrev S_ : Shape := ⟨0, ![]⟩
abbrev S1024x128x16x1 : Shape := ⟨4, ![1024, 128, 16, 1]⟩
abbrev S1 : Shape := ⟨1, ![1]⟩
abbrev S1x1x1x1 : Shape := ⟨4, ![1, 1, 1, 1]⟩
abbrev S1024x128x16x24 : Shape := ⟨4, ![1024, 128, 16, 24]⟩
abbrev S1024x128x384 : Shape := ⟨3, ![1024, 128, 384]⟩
abbrev S1024x128 : Shape := ⟨2, ![1024, 128]⟩
abbrev S1024x128x1 : Shape := ⟨3, ![1024, 128, 1]⟩
abbrev S1x1x384 : Shape := ⟨3, ![1, 1, 384]⟩

abbrev nBuf : Space → Nat
  | .hbm => 72
  | .vmem => 0
  | .smem => 0
  | _ => 0

abbrev bufTy : (tb : Table) → Fin (tcTables nBuf tb) → BufTy
  | .hbm, ⟨0, _⟩ => ⟨S1024x128x16, .i32⟩
  | .hbm, ⟨1, _⟩ => ⟨S65536x24, .f32⟩
  | .hbm, ⟨2, _⟩ => ⟨S384, .f32⟩
  | .hbm, ⟨3, _⟩ => ⟨S384, .f32⟩
  | .hbm, ⟨4, _⟩ => ⟨S_, .i32⟩
  | .hbm, ⟨5, _⟩ => ⟨S1024x128x16, .i32⟩
  | .hbm, ⟨6, _⟩ => ⟨S1024x128x16, .i1⟩
  | .hbm, ⟨7, _⟩ => ⟨S_, .i32⟩
  | .hbm, ⟨8, _⟩ => ⟨S1024x128x16, .i32⟩
  | .hbm, ⟨9, _⟩ => ⟨S1024x128x16, .i32⟩
  | .hbm, ⟨10, _⟩ => ⟨S1024x128x16, .i32⟩
  | .hbm, ⟨11, _⟩ => ⟨S1024x128x16x1, .i32⟩
  | .hbm, ⟨12, _⟩ => ⟨S1, .i32⟩
  | .hbm, ⟨13, _⟩ => ⟨S_, .i32⟩
  | .hbm, ⟨14, _⟩ => ⟨S1024x128x16x1, .i32⟩
  | .hbm, ⟨15, _⟩ => ⟨S1024x128x16x1, .i1⟩
  | .hbm, ⟨16, _⟩ => ⟨S1x1x1x1, .i32⟩
  | .hbm, ⟨17, _⟩ => ⟨S1024x128x16x1, .i32⟩
  | .hbm, ⟨18, _⟩ => ⟨S1024x128x16x1, .i1⟩
  | .hbm, ⟨19, _⟩ => ⟨S1024x128x16x1, .i1⟩
  | .hbm, ⟨20, _⟩ => ⟨S_, .i1⟩
  | .hbm, ⟨21, _⟩ => ⟨S1024x128x16, .i1⟩
  | .hbm, ⟨22, _⟩ => ⟨S1024x128x16x24, .f32⟩
  | .hbm, ⟨23, _⟩ => ⟨S1024x128x16x24, .i1⟩
  | .hbm, ⟨24, _⟩ => ⟨S_, .f32⟩
  | .hbm, ⟨25, _⟩ => ⟨S1024x128x16x24, .f32⟩
  | .hbm, ⟨26, _⟩ => ⟨S1024x128x16x24, .f32⟩
  | .hbm, ⟨27, _⟩ => ⟨S1024x128x384, .f32⟩
  | .hbm, ⟨28, _⟩ => ⟨S_, .f32⟩
  | .hbm, ⟨29, _⟩ => ⟨S1024x128, .f32⟩
  | .hbm, ⟨30, _⟩ => ⟨S1024x128x1, .f32⟩
  | .hbm, ⟨31, _⟩ => ⟨S_, .f32⟩
  | .hbm, ⟨32, _⟩ => ⟨S1024x128x1, .f32⟩
  | .hbm, ⟨33, _⟩ => ⟨S1024x128x1, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S1024x128x1, .f32⟩
  | .hbm, ⟨38, _⟩ => ⟨S_, .f32⟩
  | .hbm, ⟨39, _⟩ => ⟨S1024x128x1, .f32⟩
  | .hbm, ⟨40, _⟩ => ⟨S1024x128x1, .f32⟩
  | .hbm, ⟨41, _⟩ => ⟨S1024x128x384, .f32⟩
  | .hbm, ⟨42, _⟩ => ⟨S1024x128x384, .f32⟩
  | .hbm, ⟨43, _⟩ => ⟨S1024x128x384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x128, .f32⟩
  | .hbm, ⟨49, _⟩ => ⟨S1024x128x1, .f32⟩
  | .hbm, ⟨50, _⟩ => ⟨S1024x128x1, .f32⟩
  | .hbm, ⟨51, _⟩ => ⟨S1024x128x1, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S1024x128x1, .f32⟩
  | .hbm, ⟨57, _⟩ => ⟨S1024x128x1, .f32⟩
  | .hbm, ⟨58, _⟩ => ⟨S1024x128x384, .f32⟩
  | .hbm, ⟨59, _⟩ => ⟨S1024x128x384, .f32⟩
  | .hbm, ⟨60, _⟩ => ⟨S_, .f32⟩
  | .hbm, ⟨61, _⟩ => ⟨S1024x128x1, .f32⟩
  | .hbm, ⟨62, _⟩ => ⟨S1024x128x1, .f32⟩
  | .hbm, ⟨63, _⟩ => ⟨S1024x128x1, .f32⟩
  | .hbm, ⟨64, _⟩ => ⟨S1024x128x384, .f32⟩
  | .hbm, ⟨65, _⟩ => ⟨S1024x128x384, .f32⟩
  | .hbm, ⟨66, _⟩ => ⟨S1x1x384, .f32⟩
  | .hbm, ⟨67, _⟩ => ⟨S1024x128x384, .f32⟩
  | .hbm, ⟨68, _⟩ => ⟨S1024x128x384, .f32⟩
  | .hbm, ⟨69, _⟩ => ⟨S1x1x384, .f32⟩
  | .hbm, ⟨70, _⟩ => ⟨S1024x128x384, .f32⟩
  | .hbm, ⟨71, _⟩ => ⟨S1024x128x384, .f32⟩
  | _, _ => ⟨S1024x128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_cst_2 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_cst_3 : Ref sig .tc := ⟨.hbm, 52, rfl⟩
abbrev main_call1_v13 : Ref sig .tc := ⟨.hbm, 53, rfl⟩
abbrev main_call1_cst_4 : Ref sig .tc := ⟨.hbm, 54, rfl⟩
abbrev main_call1_call0_v0 : Ref sig .tc := ⟨.hbm, 55, rfl⟩
abbrev main_call1_call0_v1 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst_1 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩

abbrev nD : Nat := 1
abbrev τ : Topo := Topo.v7x

variable {F : FTy → Type} [FloatOps F]
-- ==== Proof.KernelIdeal.Names.lean ====
/-
  Names for what the kernel's transfers touch.  The codepoints and the result are cut into 32 blocks of 32 rows,
  numbered by a round `r : Fin 8` and a slot `s : Fin 4` (block `4 r + s`); the two rings have four slots each, with
  one DMA semaphore per slot.  Every slice the program takes is one of these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The codepoints, the result, the ring of input slots and the ring of output slots. -/
abbrev cpM : Memref sig .tc .hbm S1024x128x16 .i32 := Memref.whole main_arg0
abbrev resM : Memref sig .tc .hbm S1024x128x384 .f32 := Memref.whole main_v0
abbrev ringI : Memref sig .tc .vmem S4x32x128x16 .i32 := Memref.whole cc0_scratch0
abbrev ringO : Memref sig .tc .vmem S4x32x128x384 .f32 := Memref.whole cc0_scratch1

/-- First row of block `4 r + s`. -/
abbrev blkOff (r : Fin 8) (s : Fin 4) : Fin 3 → Nat := ![(4 * r.val + s.val) * 32, 0, 0]
abbrev slotOff (s : Fin 4) : Fin 4 → Nat := ![s.val, 0, 0, 0]
abbrev semOff (s : Fin 4) : Fin 1 → Nat := ![s.val]

theorem blkOffI_inb (r : Fin 8) (s : Fin 4) : ∀ a, blkOff r s a + S32x128x16.size a ≤ S1024x128x16.size a := by
  revert r s; decide
theorem blkOffO_inb (r : Fin 8) (s : Fin 4) : ∀ a, blkOff r s a + S32x128x384.size a ≤ S1024x128x384.size a := by
  revert r s; decide
theorem slotOffI_inb (s : Fin 4) : ∀ a, slotOff s a + S1x32x128x16.size a ≤ S4x32x128x16.size a := by
  revert s; decide
theorem slotOffO_inb (s : Fin 4) : ∀ a, slotOff s a + S1x32x128x384.size a ≤ S4x32x128x384.size a := by
  revert s; decide
theorem semOff_inb (s : Fin 4) : ∀ a, semOff s a + S1.size a ≤ S4.size a := by
  revert s; decide

/-- Block `4 r + s` of the codepoints; of the result. -/
def inBlk (r : Fin 8) (s : Fin 4) : Memref sig .tc .hbm S32x128x16 .i32 :=
  cpM.slice (Rect.unit (s := S1024x128x16) (blkOff r s) S32x128x16.size (blkOffI_inb r s)) (fun _ => rfl)
def outBlk (r : Fin 8) (s : Fin 4) : Memref sig .tc .hbm S32x128x384 .f32 :=
  resM.slice (Rect.unit (s := S1024x128x384) (blkOff r s) S32x128x384.size (blkOffO_inb r s)) (fun _ => rfl)
/-- Slot `s` of the input ring; of the output ring. -/
def inSlot (s : Fin 4) : Memref sig .tc .vmem S32x128x16 .i32 :=
  (ringI.slice (Rect.unit (s := S4x32x128x16) (slotOff s) S1x32x128x16.size (slotOffI_inb s)) (fun _ => rfl)).squeeze S32x128x16 squeezes_S1x32x128x16_S32x128x16
def outSlot (s : Fin 4) : Memref sig .tc .vmem S32x128x384 .f32 :=
  (ringO.slice (Rect.unit (s := S4x32x128x384) (slotOff s) S1x32x128x384.size (slotOffO_inb s)) (fun _ => rfl)).squeeze S32x128x384 squeezes_S1x32x128x384_S32x128x384
/-- Slot `s`'s semaphore for copies in; for copies out. -/
def inSem (s : Fin 4) : DmaSems sig S_ := (cc0_scratch2.slice (Rect.unit (s := S4) (semOff s) S1.size (semOff_inb s))).squeeze S_ squeezes_S1_S_
def outSem (s : Fin 4) : DmaSems sig S_ := (cc0_scratch3.slice (Rect.unit (s := S4) (semOff s) S1.size (semOff_inb s))).squeeze S_ squeezes_S1_S_

instance (s : Fin 4) : ClosedOff (slotOff s) := ⟨slotOff s, rfl⟩
instance (r : Fin 8) (s : Fin 4) : ClosedOff (blkOff r s) := ⟨blkOff r s, rfl⟩

/-! ## The offsets the loop computes, in closed form -/

/-- The loop makes six trips. -/
theorem trips_eq : k0_t1_loop.trips = 6 := by decide

theorem off_in_wait : ∀ (k : Fin k0_t1_loop.trips) (s : Fin 4), k0_off1 k (BitVec.ofNat 32 s.val) = blkOff (Ring.bk 8 (k.val + 1)) s := by decide
theorem off_out_wait : ∀ (k : Fin k0_t1_loop.trips) (s : Fin 4), k0_off2 k (BitVec.ofNat 32 s.val) = blkOff (Ring.bk 8 k.val) s := by decide
theorem off_out_start : ∀ (k : Fin k0_t1_loop.trips) (s : Fin 4), k0_off3 k (BitVec.ofNat 32 s.val) = blkOff (Ring.bk 8 (k.val + 1)) s := by decide
theorem off_in_start : ∀ (k : Fin k0_t1_loop.trips) (s : Fin 4), k0_off4 k (BitVec.ofNat 32 s.val) = blkOff (Ring.bk 8 (k.val + 2)) s := by decide

/-! ## Every slice of the program is one of the names -/

section Congr
theorem inSem_congr {off : Fin 1 → Nat} {s : Fin 4} (e : off = semOff s) (hh) :
    (cc0_scratch2.slice (Rect.unit (s := S4) off S1.size hh)).squeeze S_ squeezes_S1_S_ = inSem s :=
  congrArg (fun A : DmaSems sig S1 => A.squeeze S_ squeezes_S1_S_) (SemArray.slice_unit_congr _ e _ _)
theorem outSem_congr {off : Fin 1 → Nat} {s : Fin 4} (e : off = semOff s) (hh) :
    (cc0_scratch3.slice (Rect.unit (s := S4) off S1.size hh)).squeeze S_ squeezes_S1_S_ = outSem s :=
  congrArg (fun A : DmaSems sig S1 => A.squeeze S_ squeezes_S1_S_) (SemArray.slice_unit_congr _ e _ _)
theorem inSlot_congr {off : Fin 4 → Nat} {s : Fin 4} (e : off = slotOff s) (hh hs) :
    (ringI.slice (Rect.unit (s := S4x32x128x16) off S1x32x128x16.size hh) hs).squeeze S32x128x16 squeezes_S1x32x128x16_S32x128x16 = inSlot s :=
  congrArg (fun M : Memref sig .tc .vmem S1x32x128x16 .i32 => M.squeeze S32x128x16 squeezes_S1x32x128x16_S32x128x16) (Memref.slice_unit_congr _ e _ _ _ _)
theorem outSlot_congr {off : Fin 4 → Nat} {s : Fin 4} (e : off = slotOff s) (hh hs) :
    (ringO.slice (Rect.unit (s := S4x32x128x384) off S1x32x128x384.size hh) hs).squeeze S32x128x384 squeezes_S1x32x128x384_S32x128x384 = outSlot s :=
  congrArg (fun M : Memref sig .tc .vmem S1x32x128x384 .f32 => M.squeeze S32x128x384 squeezes_S1x32x128x384_S32x128x384) (Memref.slice_unit_congr _ e _ _ _ _)
theorem inBlk_congr {off : Fin 3 → Nat} {r : Fin 8} {s : Fin 4} (e : off = blkOff r s) (hh hs) :
    cpM.slice (Rect.unit (s := S1024x128x16) off S32x128x16.size hh) hs = inBlk r s := Memref.slice_unit_congr _ e _ _ _ (fun _ => rfl)
theorem outBlk_congr {off : Fin 3 → Nat} {r : Fin 8} {s : Fin 4} (e : off = blkOff r s) (hh hs) :
    resM.slice (Rect.unit (s := S1024x128x384) off S32x128x384.size hh) hs = outBlk r s := Memref.slice_unit_congr _ e _ _ _ (fun _ => rfl)
end Congr

@[sl_canon] theorem inSem_0 (hh) : (cc0_scratch2.slice (Rect.unit (s := S4) ![0] S1.size hh)).squeeze S_ squeezes_S1_S_ = inSem 0 := inSem_congr (by decide) _
@[sl_canon] theorem outSem_0 (hh) : (cc0_scratch3.slice (Rect.unit (s := S4) ![0] S1.size hh)).squeeze S_ squeezes_S1_S_ = outSem 0 := outSem_congr (by decide) _
@[sl_canon] theorem inSlot_0 (hh hs) : (ringI.slice (Rect.unit (s := S4x32x128x16) ![0, 0, 0, 0] S1x32x128x16.size hh) hs).squeeze S32x128x16 squeezes_S1x32x128x16_S32x128x16 = inSlot 0 := inSlot_congr (by decide) _ _
@[sl_canon] theorem outSlot_0 (hh hs) : (ringO.slice (Rect.unit (s := S4x32x128x384) ![0, 0, 0, 0] S1x32x128x384.size hh) hs).squeeze S32x128x384 squeezes_S1x32x128x384_S32x128x384 = outSlot 0 := outSlot_congr (by decide) _ _
@[sl_canon] theorem inSem_1 (hh) : (cc0_scratch2.slice (Rect.unit (s := S4) ![1] S1.size hh)).squeeze S_ squeezes_S1_S_ = inSem 1 := inSem_congr (by decide) _
@[sl_canon] theorem outSem_1 (hh) : (cc0_scratch3.slice (Rect.unit (s := S4) ![1] S1.size hh)).squeeze S_ squeezes_S1_S_ = outSem 1 := outSem_congr (by decide) _
@[sl_canon] theorem inSlot_1 (hh hs) : (ringI.slice (Rect.unit (s := S4x32x128x16) ![1, 0, 0, 0] S1x32x128x16.size hh) hs).squeeze S32x128x16 squeezes_S1x32x128x16_S32x128x16 = inSlot 1 := inSlot_congr (by decide) _ _
@[sl_canon] theorem outSlot_1 (hh hs) : (ringO.slice (Rect.unit (s := S4x32x128x384) ![1, 0, 0, 0] S1x32x128x384.size hh) hs).squeeze S32x128x384 squeezes_S1x32x128x384_S32x128x384 = outSlot 1 := outSlot_congr (by decide) _ _
@[sl_canon] theorem inSem_2 (hh) : (cc0_scratch2.slice (Rect.unit (s := S4) ![2] S1.size hh)).squeeze S_ squeezes_S1_S_ = inSem 2 := inSem_congr (by decide) _
@[sl_canon] theorem outSem_2 (hh) : (cc0_scratch3.slice (Rect.unit (s := S4) ![2] S1.size hh)).squeeze S_ squeezes_S1_S_ = outSem 2 := outSem_congr (by decide) _
@[sl_canon] theorem inSlot_2 (hh hs) : (ringI.slice (Rect.unit (s := S4x32x128x16) ![2, 0, 0, 0] S1x32x128x16.size hh) hs).squeeze S32x128x16 squeezes_S1x32x128x16_S32x128x16 = inSlot 2 := inSlot_congr (by decide) _ _
@[sl_canon] theorem outSlot_2 (hh hs) : (ringO.slice (Rect.unit (s := S4x32x128x384) ![2, 0, 0, 0] S1x32x128x384.size hh) hs).squeeze S32x128x384 squeezes_S1x32x128x384_S32x128x384 = outSlot 2 := outSlot_congr (by decide) _ _
@[sl_canon] theorem inSem_3 (hh) : (cc0_scratch2.slice (Rect.unit (s := S4) ![3] S1.size hh)).squeeze S_ squeezes_S1_S_ = inSem 3 := inSem_congr (by decide) _
@[sl_canon] theorem outSem_3 (hh) : (cc0_scratch3.slice (Rect.unit (s := S4) ![3] S1.size hh)).squeeze S_ squeezes_S1_S_ = outSem 3 := outSem_congr (by decide) _
@[sl_canon] theorem inSlot_3 (hh hs) : (ringI.slice (Rect.unit (s := S4x32x128x16) ![3, 0, 0, 0] S1x32x128x16.size hh) hs).squeeze S32x128x16 squeezes_S1x32x128x16_S32x128x16 = inSlot 3 := inSlot_congr (by decide) _ _
@[sl_canon] theorem outSlot_3 (hh hs) : (ringO.slice (Rect.unit (s := S4x32x128x384) ![3, 0, 0, 0] S1x32x128x384.size hh) hs).squeeze S32x128x384 squeezes_S1x32x128x384_S32x128x384 = outSlot 3 := outSlot_congr (by decide) _ _

/-- The loop's blocks: waited in, waited out, started out, started in. -/
@[sl_canon] theorem inWait_0 (k : Fin k0_t1_loop.trips) (hh hs) : cpM.slice (Rect.unit (s := S1024x128x16) (k0_off1 k 0#32) S32x128x16.size hh) hs = inBlk (Ring.bk 8 (k.val + 1)) 0 := inBlk_congr (off_in_wait k 0) _ _
@[sl_canon] theorem outWait_0 (k : Fin k0_t1_loop.trips) (hh hs) : resM.slice (Rect.unit (s := S1024x128x384) (k0_off2 k 0#32) S32x128x384.size hh) hs = outBlk (Ring.bk 8 k.val) 0 := outBlk_congr (off_out_wait k 0) _ _
@[sl_canon] theorem outStart_0 (k : Fin k0_t1_loop.trips) (hh hs) : resM.slice (Rect.unit (s := S1024x128x384) (k0_off3 k 0#32) S32x128x384.size hh) hs = outBlk (Ring.bk 8 (k.val + 1)) 0 := outBlk_congr (off_out_start k 0) _ _
@[sl_canon] theorem inStart_0 (k : Fin k0_t1_loop.trips) (hh hs) : cpM.slice (Rect.unit (s := S1024x128x16) (k0_off4 k 0#32) S32x128x16.size hh) hs = inBlk (Ring.bk 8 (k.val + 2)) 0 := inBlk_congr (off_in_start k 0) _ _
@[sl_canon] theorem inWait_1 (k : Fin k0_t1_loop.trips) (hh hs) : cpM.slice (Rect.unit (s := S1024x128x16) (k0_off1 k 1#32) S32x128x16.size hh) hs = inBlk (Ring.bk 8 (k.val + 1)) 1 := inBlk_congr (off_in_wait k 1) _ _
@[sl_canon] theorem outWait_1 (k : Fin k0_t1_loop.trips) (hh hs) : resM.slice (Rect.unit (s := S1024x128x384) (k0_off2 k 1#32) S32x128x384.size hh) hs = outBlk (Ring.bk 8 k.val) 1 := outBlk_congr (off_out_wait k 1) _ _
@[sl_canon] theorem outStart_1 (k : Fin k0_t1_loop.trips) (hh hs) : resM.slice (Rect.unit (s := S1024x128x384) (k0_off3 k 1#32) S32x128x384.size hh) hs = outBlk (Ring.bk 8 (k.val + 1)) 1 := outBlk_congr (off_out_start k 1) _ _
@[sl_canon] theorem inStart_1 (k : Fin k0_t1_loop.trips) (hh hs) : cpM.slice (Rect.unit (s := S1024x128x16) (k0_off4 k 1#32) S32x128x16.size hh) hs = inBlk (Ring.bk 8 (k.val + 2)) 1 := inBlk_congr (off_in_start k 1) _ _
@[sl_canon] theorem inWait_2 (k : Fin k0_t1_loop.trips) (hh hs) : cpM.slice (Rect.unit (s := S1024x128x16) (k0_off1 k 2#32) S32x128x16.size hh) hs = inBlk (Ring.bk 8 (k.val + 1)) 2 := inBlk_congr (off_in_wait k 2) _ _
@[sl_canon] theorem outWait_2 (k : Fin k0_t1_loop.trips) (hh hs) : resM.slice (Rect.unit (s := S1024x128x384) (k0_off2 k 2#32) S32x128x384.size hh) hs = outBlk (Ring.bk 8 k.val) 2 := outBlk_congr (off_out_wait k 2) _ _
@[sl_canon] theorem outStart_2 (k : Fin k0_t1_loop.trips) (hh hs) : resM.slice (Rect.unit (s := S1024x128x384) (k0_off3 k 2#32) S32x128x384.size hh) hs = outBlk (Ring.bk 8 (k.val + 1)) 2 := outBlk_congr (off_out_start k 2) _ _
@[sl_canon] theorem inStart_2 (k : Fin k0_t1_loop.trips) (hh hs) : cpM.slice (Rect.unit (s := S1024x128x16) (k0_off4 k 2#32) S32x128x16.size hh) hs = inBlk (Ring.bk 8 (k.val + 2)) 2 := inBlk_congr (off_in_start k 2) _ _
@[sl_canon] theorem inWait_3 (k : Fin k0_t1_loop.trips) (hh hs) : cpM.slice (Rect.unit (s := S1024x128x16) (k0_off1 k 3#32) S32x128x16.size hh) hs = inBlk (Ring.bk 8 (k.val + 1)) 3 := inBlk_congr (off_in_wait k 3) _ _
@[sl_canon] theorem outWait_3 (k : Fin k0_t1_loop.trips) (hh hs) : resM.slice (Rect.unit (s := S1024x128x384) (k0_off2 k 3#32) S32x128x384.size hh) hs = outBlk (Ring.bk 8 k.val) 3 := outBlk_congr (off_out_wait k 3) _ _
@[sl_canon] theorem outStart_3 (k : Fin k0_t1_loop.trips) (hh hs) : resM.slice (Rect.unit (s := S1024x128x384) (k0_off3 k 3#32) S32x128x384.size hh) hs = outBlk (Ring.bk 8 (k.val + 1)) 3 := outBlk_congr (off_out_start k 3) _ _
@[sl_canon] theorem inStart_3 (k : Fin k0_t1_loop.trips) (hh hs) : cpM.slice (Rect.unit (s := S1024x128x16) (k0_off4 k 3#32) S32x128x16.size hh) hs = inBlk (Ring.bk 8 (k.val + 2)) 3 := inBlk_congr (off_in_start k 3) _ _

/-- The blocks named outside the loop: rounds 0, 1 and 7 in, rounds 0, 6 and 7 out. -/
@[sl_canon] theorem inLit_0_0 (hh hs) : cpM.slice (Rect.unit (s := S1024x128x16) ![0, 0, 0] S32x128x16.size hh) hs = inBlk 0 0 := inBlk_congr (by decide) _ _
@[sl_canon] theorem inLit_0_1 (hh hs) : cpM.slice (Rect.unit (s := S1024x128x16) ![32, 0, 0] S32x128x16.size hh) hs = inBlk 0 1 := inBlk_congr (by decide) _ _
@[sl_canon] theorem inLit_0_2 (hh hs) : cpM.slice (Rect.unit (s := S1024x128x16) ![64, 0, 0] S32x128x16.size hh) hs = inBlk 0 2 := inBlk_congr (by decide) _ _
@[sl_canon] theorem inLit_0_3 (hh hs) : cpM.slice (Rect.unit (s := S1024x128x16) ![96, 0, 0] S32x128x16.size hh) hs = inBlk 0 3 := inBlk_congr (by decide) _ _
@[sl_canon] theorem inLit_1_0 (hh hs) : cpM.slice (Rect.unit (s := S1024x128x16) ![128, 0, 0] S32x128x16.size hh) hs = inBlk 1 0 := inBlk_congr (by decide) _ _
@[sl_canon] theorem inLit_1_1 (hh hs) : cpM.slice (Rect.unit (s := S1024x128x16) ![160, 0, 0] S32x128x16.size hh) hs = inBlk 1 1 := inBlk_congr (by decide) _ _
@[sl_canon] theorem inLit_1_2 (hh hs) : cpM.slice (Rect.unit (s := S1024x128x16) ![192, 0, 0] S32x128x16.size hh) hs = inBlk 1 2 := inBlk_congr (by decide) _ _
@[sl_canon] theorem inLit_1_3 (hh hs) : cpM.slice (Rect.unit (s := S1024x128x16) ![224, 0, 0] S32x128x16.size hh) hs = inBlk 1 3 := inBlk_congr (by decide) _ _
@[sl_canon] theorem inLit_7_0 (hh hs) : cpM.slice (Rect.unit (s := S1024x128x16) ![896, 0, 0] S32x128x16.size hh) hs = inBlk 7 0 := inBlk_congr (by decide) _ _
@[sl_canon] theorem inLit_7_1 (hh hs) : cpM.slice (Rect.unit (s := S1024x128x16) ![928, 0, 0] S32x128x16.size hh) hs = inBlk 7 1 := inBlk_congr (by decide) _ _
@[sl_canon] theorem inLit_7_2 (hh hs) : cpM.slice (Rect.unit (s := S1024x128x16) ![960, 0, 0] S32x128x16.size hh) hs = inBlk 7 2 := inBlk_congr (by decide) _ _
@[sl_canon] theorem inLit_7_3 (hh hs) : cpM.slice (Rect.unit (s := S1024x128x16) ![992, 0, 0] S32x128x16.size hh) hs = inBlk 7 3 := inBlk_congr (by decide) _ _
@[sl_canon] theorem outLit_0_0 (hh hs) : resM.slice (Rect.unit (s := S1024x128x384) ![0, 0, 0] S32x128x384.size hh) hs = outBlk 0 0 := outBlk_congr (by decide) _ _
@[sl_canon] theorem outLit_0_1 (hh hs) : resM.slice (Rect.unit (s := S1024x128x384) ![32, 0, 0] S32x128x384.size hh) hs = outBlk 0 1 := outBlk_congr (by decide) _ _
@[sl_canon] theorem outLit_0_2 (hh hs) : resM.slice (Rect.unit (s := S1024x128x384) ![64, 0, 0] S32x128x384.size hh) hs = outBlk 0 2 := outBlk_congr (by decide) _ _
@[sl_canon] theorem outLit_0_3 (hh hs) : resM.slice (Rect.unit (s := S1024x128x384) ![96, 0, 0] S32x128x384.size hh) hs = outBlk 0 3 := outBlk_congr (by decide) _ _
@[sl_canon] theorem outLit_6_0 (hh hs) : resM.slice (Rect.unit (s := S1024x128x384) ![768, 0, 0] S32x128x384.size hh) hs = outBlk 6 0 := outBlk_congr (by decide) _ _
@[sl_canon] theorem outLit_6_1 (hh hs) : resM.slice (Rect.unit (s := S1024x128x384) ![800, 0, 0] S32x128x384.size hh) hs = outBlk 6 1 := outBlk_congr (by decide) _ _
@[sl_canon] theorem outLit_6_2 (hh hs) : resM.slice (Rect.unit (s := S1024x128x384) ![832, 0, 0] S32x128x384.size hh) hs = outBlk 6 2 := outBlk_congr (by decide) _ _
@[sl_canon] theorem outLit_6_3 (hh hs) : resM.slice (Rect.unit (s := S1024x128x384) ![864, 0, 0] S32x128x384.size hh) hs = outBlk 6 3 := outBlk_congr (by decide) _ _
@[sl_canon] theorem outLit_7_0 (hh hs) : resM.slice (Rect.unit (s := S1024x128x384) ![896, 0, 0] S32x128x384.size hh) hs = outBlk 7 0 := outBlk_congr (by decide) _ _
@[sl_canon] theorem outLit_7_1 (hh hs) : resM.slice (Rect.unit (s := S1024x128x384) ![928, 0, 0] S32x128x384.size hh) hs = outBlk 7 1 := outBlk_congr (by decide) _ _
@[sl_canon] theorem outLit_7_2 (hh hs) : resM.slice (Rect.unit (s := S1024x128x384) ![960, 0, 0] S32x128x384.size hh) hs = outBlk 7 2 := outBlk_congr (by decide) _ _
@[sl_canon] theorem outLit_7_3 (hh hs) : resM.slice (Rect.unit (s := S1024x128x384) ![992, 0, 0] S32x128x384.size hh) hs = outBlk 7 3 := outBlk_congr (by decide) _ _

end Cert.Proof.KernelIdeal

end
-- ==== Proof.KernelIdeal.Trip.lean ====
module

public import proofs.«01_k».proof.Proof.KernelIdeal.Names

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's, beside the counters that the kernel's own copies ride on. -/
abbrev UU (nD : Nat) (τ : Topo) : Type := UR sig nD τ × Counters
local notation "𝕄" => MT nD τ sig Unit (Elt F) ℕ (UU nD τ) ℕ
abbrev 𝒱₀ : Variants := Variants.none

/-! ## What one block of codepoints becomes -/

/-- The 32 rows of results computed from 32 rows of codepoints, as the kernel computes them. -/
def chunk (x : Vec F S1x32x128x16 .i32) : FVec F S1x32x128x384 .f32 :=
  k0_pay16 (k0_pay5 (k0_pay3 x) (k0_pay4 x)) (k0_pay6 (k0_pay2 x) (k0_pay3 x)) (k0_pay7 (k0_pay1 x))
    (k0_pay12 (iota .tc S32x384 32 [0] iota_S32x384_d0_w32) (iota .tc S32x384 32 [1] iota_S32x384_d1_w32) k0_pay9 k0_pay10 k0_pay11)
    (k0_pay13 (iota .tc S32x384 32 [0] iota_S32x384_d0_w32) (iota .tc S32x384 32 [1] iota_S32x384_d1_w32))
    (k0_pay14 k0_pay8) (k0_pay15 k0_pay8) (Scalar.ofBits .f32 0x00000000#32)

section Pieces
variable (c : Dev nD) (XA : Buf (Elt F) (cpM.view.loc (c : Thread nD τ))) (XO : Buf (Elt F) (resM.view.loc (c : Thread nD τ)))

/-- Block `(r, s)` of the codepoints. -/
def inPay (r : Fin 8) (s : Fin 4) : S32x128x16.Idx → Elt F .i32 := (inBlk r s).view.read (Elt F) XA
/-- Block `(r, s)` of the result. -/
def outPay (r : Fin 8) (s : Fin 4) : S32x128x384.Idx → Elt F .f32 :=
  shapeCast S32x128x384 (chunk (F := F) (shapeCast S1x32x128x16 (inPay c XA r s) (by decide))) (by decide)

abbrev inCell (s : Fin 4) : sProp 𝕄 := semVal ((c : Thread nD τ), SemLoc.dma (inSem s).sem) 0
abbrev outCell (s : Fin 4) : sProp 𝕄 := semVal ((c : Thread nD τ), SemLoc.dma (outSem s).sem) 0
abbrev inSlotP (s : Fin 4) (f : Buf (Elt F) ((inSlot s).view.loc (c : Thread nD τ))) : sProp 𝕄 :=
  (inSlot s).view.loc (c : Thread nD τ) ↦[(inSlot s).view.set]{fullShare} f
abbrev outSlotP (s : Fin 4) (f : Buf (Elt F) ((outSlot s).view.loc (c : Thread nD τ))) : sProp 𝕄 :=
  (outSlot s).view.loc (c : Thread nD τ) ↦[(outSlot s).view.set]{fullShare} f
abbrev inBlkP (r : Fin 8) (s : Fin 4) : sProp 𝕄 := (inBlk r s).view.loc (c : Thread nD τ) ↦[(inBlk r s).view.set]{fullShare} XA
abbrev outBlkP (r : Fin 8) (s : Fin 4) (f : Buf (Elt F) (resM.view.loc (c : Thread nD τ))) : sProp 𝕄 :=
  (outBlk r s).view.loc (c : Thread nD τ) ↦[(outBlk r s).view.set]{fullShare} f

/-- The whole result: row `i` lies in block `i / 32`, that is in round `i / 128` and slot `i / 32 % 4`. -/
def result : Buf (Elt F) (resM.view.loc (c : Thread nD τ)) := fun i : S1024x128x384.Idx =>
  outPay c XA (Ring.bk 8 ((i 0).val / 128)) (Ring.bk 4 ((i 0).val / 32)) (fun a => match a with
    | ⟨0, _⟩ => ⟨(i 0).val % 32, Nat.mod_lt _ (by decide)⟩
    | ⟨1, _⟩ => i 1
    | ⟨2, _⟩ => i 2)

/-- The result block `(r, s)` once computed. -/
abbrev doneP (r : Fin 8) (s : Fin 4) : sProp 𝕄 := outBlkP c r s (result c XA)

/-- A copy in takes this many units on its semaphore, a copy out that many. -/
abbrev NI (s : Fin 4) : ℕ := 65536
abbrev NO (s : Fin 4) : ℕ := 196608

abbrev inFlight (r : Fin 8) (s : Fin 4) : sProp 𝕄 :=
  Transfers.Flight countersEmb (c : Thread nD τ) (SemLoc.dma (inSem s).sem) () (NI s)
    iprop(inSlotP c s ((inSlot s).view.rep (inPay c XA r s)) ∗ inBlkP c XA r s)
abbrev outFlight (r : Fin 8) (s : Fin 4) : sProp 𝕄 :=
  Transfers.Flight countersEmb (c : Thread nD τ) (SemLoc.dma (outSem s).sem) () (NO s)
    iprop(doneP c XA r s ∗ outSlotP c s ((outSlot s).view.rep (outPay c XA r s)))

end Pieces

/-! ## What the loads, the stores and the copies leave -/

section Values
variable (c : Dev nD) (XA : Buf (Elt F) (cpM.view.loc (c : Thread nD τ))) (XO : Buf (Elt F) (resM.view.loc (c : Thread nD τ)))

/-- A load of a slot whose contents read `v` is `v`, as one block. -/
theorem load_slot (s : Fin 4) (g : Buf (Elt F) (ringI.view.loc (c : Thread nD τ))) (v : S32x128x16.Idx → Elt F .i32)
    (hg : (inSlot s).view.read (Elt F) g = v) (hh) :
    ringI.view.readAt (Elt F) (Rect.unit (s := S4x32x128x16) (slotOff s) S1x32x128x16.size hh).toLoadRect g
      = shapeCast S1x32x128x16 v (by decide) := by
  refine funext fun (x : S1x32x128x16.Idx) => ?_
  have h := congrFun hg (Shape.reshapeEquiv (s := S32x128x16) (s' := S1x32x128x16) (by decide) x)
  refine Eq.trans ?_ h
  have hx : (Shape.reshapeEquiv (s := S1x32x128x16) (s' := S32x128x16) (by decide)) (Shape.reshapeEquiv (s := S32x128x16) (s' := S1x32x128x16) (by decide) x) = x := by
    rw [Shape.reshapeEquiv_reshapeEquiv (h' := (by decide)), Shape.reshapeEquiv_self]
  exact congrArg (fun y => (ringI.view.slice (Rect.unit (s := S4x32x128x16) (slotOff s) S1x32x128x16.size hh)).read (Elt F) g y) hx.symm

/-- A slot of the output ring into which the block `w` was stored reads `w`. -/
theorem read_stored (s : Fin 4) (f : Buf (Elt F) (ringO.view.loc (c : Thread nD τ))) (w : S1x32x128x384.Idx → Elt F .f32) (hh) :
    (outSlot s).view.read (Elt F) (View.write (Elt F) (ringO.access (Rect.unit (s := S4x32x128x384) (slotOff s) S1x32x128x384.size hh)) f w Finset.univ)
      = shapeCast S32x128x384 w (by decide) := by
  funext x
  exact congrFun (View.read_write_univ (v := ringO.access (Rect.unit (s := S4x32x128x384) (slotOff s) S1x32x128x384.size hh)) f w) (Shape.reshapeEquiv (s := S1x32x128x384) (s' := S32x128x384) (by decide) x)

/-- The block of results that a slot computes from its input slot is the block's payload. -/
theorem read_computed (r : Fin 8) (s : Fin 4) (f : Buf (Elt F) (ringO.view.loc (c : Thread nD τ))) (g : Buf (Elt F) (ringI.view.loc (c : Thread nD τ)))
    (hg : (inSlot s).view.read (Elt F) g = inPay c XA r s) (hi ho) :
    (outSlot s).view.read (Elt F) (View.write (Elt F) (ringO.access (Rect.unit (s := S4x32x128x384) (slotOff s) S1x32x128x384.size ho)) f
        (chunk (F := F) (ringI.view.readAt (Elt F) (Rect.unit (s := S4x32x128x16) (slotOff s) S1x32x128x16.size hi).toLoadRect g)) Finset.univ)
      = outPay c XA r s := by
  rw [read_stored, load_slot c s g _ hg]; rfl

/-- Where in the result the position `x` of block `(r, s)` lies. -/
def posOut (r : Fin 8) (s : Fin 4) (x : S32x128x384.Idx) : S1024x128x384.Idx := (outBlk r s).view.emb x

/-- Row `a` of block `(r, s)` is row `(4 r + s) 32 + a` of the result. -/
theorem posOut_val (r : Fin 8) (s : Fin 4) (x : S32x128x384.Idx) :
    (posOut r s x 0).val = (4 * r.val + s.val) * 32 + (x 0).val := by
  show (4 * r.val + s.val) * 32 + 1 * (x 0).val = _
  omega

/-- The result read at block `(r, s)` is the block's payload. -/
theorem read_result (r : Fin 8) (s : Fin 4) : (outBlk r s).view.read (Elt F) (result c XA) = outPay c XA r s := by
  funext x
  have h0 := posOut_val r s x
  have hx : (x 0).val < 32 := (x 0).isLt
  have hr := r.isLt
  have hs := s.isLt
  show result c XA (posOut r s x) = _
  unfold result
  have e1 : Ring.bk 8 ((posOut r s x 0).val / 128) = r := by
    apply Fin.ext; show (_ / 128) % 8 = _; rw [h0]; omega
  have e2 : Ring.bk 4 ((posOut r s x 0).val / 32) = s := by
    apply Fin.ext
    show (_ / 32) % 4 = _
    rw [h0]; omega
  rw [e1, e2]
  congr 1
  funext a
  match a with
  | ⟨0, _⟩ => apply Fin.ext; show (posOut r s x 0).val % 32 = (x 0).val; rw [h0]; omega
  | ⟨1, _⟩ => apply Fin.ext; show 0 + 1 * (x 1).val = (x 1).val; omega
  | ⟨2, _⟩ => apply Fin.ext; show 0 + 1 * (x 2).val = (x 2).val; omega

/-- Contents of an input slot over which a block was copied. -/
theorem inSlot_copied (r : Fin 8) (s : Fin 4) (f : Buf (Elt F) ((inSlot s).view.loc (c : Thread nD τ))) :
    inSlotP (F := F) c s ((inSlot s).view.writes (Elt F) f [⟨Rect.whole S32x128x16, ReadAs.same.apply ((inBlk r s).view.read (Elt F) XA)⟩])
      = inSlotP c s ((inSlot s).view.rep (inPay c XA r s)) := by
  refine (pointsTo_rep _ _ _ _).trans ?_
  rw [View.read_writes_whole]; rfl

/-- An output slot whose block was just computed. -/
theorem outSlot_computed (r : Fin 8) (s : Fin 4) (f : Buf (Elt F) (ringO.view.loc (c : Thread nD τ))) (g : Buf (Elt F) (ringI.view.loc (c : Thread nD τ)))
    (hg : (inSlot s).view.read (Elt F) g = inPay c XA r s) (hi ho) :
    outSlotP (F := F) c s (View.write (Elt F) (ringO.access (Rect.unit (s := S4x32x128x384) (slotOff s) S1x32x128x384.size ho)) f
        (chunk (F := F) (ringI.view.readAt (Elt F) (Rect.unit (s := S4x32x128x16) (slotOff s) S1x32x128x16.size hi).toLoadRect g)) Finset.univ)
      = outSlotP c s ((outSlot s).view.rep (outPay c XA r s)) := by
  refine (pointsTo_rep _ _ _ _).trans ?_
  rw [read_computed c XA r s f g hg]

/-- A block of the result over which an output slot was copied. -/
theorem outBlk_copied (r : Fin 8) (s : Fin 4) (f : Buf (Elt F) (ringO.view.loc (c : Thread nD τ))) (g : Buf (Elt F) (ringI.view.loc (c : Thread nD τ)))
    (hg : (inSlot s).view.read (Elt F) g = inPay c XA r s) (hi ho) :
    outBlkP (F := F) c r s ((outBlk r s).view.writes (Elt F) (show Buf (Elt F) ((outBlk r s).view.loc (c : Thread nD τ)) from XO) [⟨Rect.whole S32x128x384, ReadAs.same.apply
        ((outSlot s).view.read (Elt F) (View.write (Elt F) (ringO.access (Rect.unit (s := S4x32x128x384) (slotOff s) S1x32x128x384.size ho)) f
        (chunk (F := F) (ringI.view.readAt (Elt F) (Rect.unit (s := S4x32x128x16) (slotOff s) S1x32x128x16.size hi).toLoadRect g)) Finset.univ))⟩])
      = doneP c XA r s := by
  refine (pointsTo_rep _ _ _ _).trans (Eq.trans ?_ (pointsTo_rep _ _ _ _).symm)
  rw [View.read_writes_whole, read_computed c XA r s f g hg, read_result]

/-- A copy in, started over whatever the slot held, is the block's flight. -/
theorem inFlight_started (r : Fin 8) (s : Fin 4) (f : Buf (Elt F) ((inSlot s).view.loc (c : Thread nD τ))) :
    Transfers.Flight countersEmb (c : Thread nD τ) (SemLoc.dma (inSem s).sem) () (NI s)
      iprop(inSlotP (F := F) c s ((inSlot s).view.writes (Elt F) f [⟨Rect.whole S32x128x16, ReadAs.same.apply ((inBlk r s).view.read (Elt F) XA)⟩]) ∗ inBlkP c XA r s)
      ⊢ inFlight c XA r s := by
  rw [inSlot_copied]

/-- A copy out, started after the slot was computed, is the block's flight. -/
theorem outFlight_started (r : Fin 8) (s : Fin 4) (f : Buf (Elt F) (ringO.view.loc (c : Thread nD τ))) (g : Buf (Elt F) (ringI.view.loc (c : Thread nD τ)))
    (hg : (inSlot s).view.read (Elt F) g = inPay c XA r s) (hi ho) :
    Transfers.Flight countersEmb (c : Thread nD τ) (SemLoc.dma (outSem s).sem) () (NO s)
      iprop(outBlkP (F := F) c r s ((outBlk r s).view.writes (Elt F) (show Buf (Elt F) ((outBlk r s).view.loc (c : Thread nD τ)) from XO) [⟨Rect.whole S32x128x384, ReadAs.same.apply
        ((outSlot s).view.read (Elt F) (View.write (Elt F) (ringO.access (Rect.unit (s := S4x32x128x384) (slotOff s) S1x32x128x384.size ho)) f
        (chunk (F := F) (ringI.view.readAt (Elt F) (Rect.unit (s := S4x32x128x16) (slotOff s) S1x32x128x16.size hi).toLoadRect g)) Finset.univ))⟩])
       ∗ outSlotP (F := F) c s (View.write (Elt F) (ringO.access (Rect.unit (s := S4x32x128x384) (slotOff s) S1x32x128x384.size ho)) f
        (chunk (F := F) (ringI.view.readAt (Elt F) (Rect.unit (s := S4x32x128x16) (slotOff s) S1x32x128x16.size hi).toLoadRect g)) Finset.univ))
      ⊢ outFlight c XA r s := by
  rw [outBlk_copied c XA XO r s f g hg, outSlot_computed c XA r s f g hg]

end Values

section Trip
variable (c : Dev nD) (XA : Buf (Elt F) (cpM.view.loc (c : Thread nD τ))) (XO : Buf (Elt F) (resM.view.loc (c : Thread nD τ)))
  (v454 : FVec F S32x128x1 .f32) (v457 : FVec F S32x128x1 .f32) (v464 : FVec F S32x128x32 .bf16) (v507 : IVec S32x384 1) (v534 : IVec S32x384 1) (v539 : FVec F S32x384 .f32) (v544 : FVec F S32x384 .f32) (cst_255 : F .f32)

abbrev tripG (k : Fin k0_t1_loop.trips) : Prog (TpuEff nD τ sig (Elt F) Λ₀ .tc) Unit :=
  k0_t1_body (F := F) cpM (Memref.isWhole_whole _) resM (Memref.isWhole_whole _) ringI (Memref.isWhole_whole _) ringO (Memref.isWhole_whole _) cc0_scratch2 cc0_scratch3
    v454 v457 v464 v507 v534 v539 v544 cst_255 k ()

/-- What a trip starts from: round `k + 1` of the codepoints and round `k` of the results in flight, round `k + 2` of the
    codepoints and round `k + 1` of the result at rest. -/
def tripPre (k : ℕ) : sProp 𝕄 :=
  iprop((∃ W, owes (c : Thread nD τ) 0 W)
      ∗ (inFlight c XA (Ring.bk 8 (k + 1)) 0 ∗ inFlight c XA (Ring.bk 8 (k + 1)) 1 ∗ inFlight c XA (Ring.bk 8 (k + 1)) 2 ∗ inFlight c XA (Ring.bk 8 (k + 1)) 3)
      ∗ (inBlkP c XA (Ring.bk 8 (k + 2)) 0 ∗ inBlkP c XA (Ring.bk 8 (k + 2)) 1 ∗ inBlkP c XA (Ring.bk 8 (k + 2)) 2 ∗ inBlkP c XA (Ring.bk 8 (k + 2)) 3)
      ∗ (outFlight c XA (Ring.bk 8 k) 0 ∗ outFlight c XA (Ring.bk 8 k) 1 ∗ outFlight c XA (Ring.bk 8 k) 2 ∗ outFlight c XA (Ring.bk 8 k) 3)
      ∗ (outBlkP c (Ring.bk 8 (k + 1)) 0 XO ∗ outBlkP c (Ring.bk 8 (k + 1)) 1 XO ∗ outBlkP c (Ring.bk 8 (k + 1)) 2 XO ∗ outBlkP c (Ring.bk 8 (k + 1)) 3 XO))

/-- What it leaves: everything one round further, round `k + 1` of the codepoints back and round `k` of the result done. -/
def tripPost (k : ℕ) : sProp 𝕄 :=
  iprop((∃ W, owes (c : Thread nD τ) 0 W)
      ∗ (inFlight c XA (Ring.bk 8 (k + 2)) 0 ∗ inFlight c XA (Ring.bk 8 (k + 2)) 1 ∗ inFlight c XA (Ring.bk 8 (k + 2)) 2 ∗ inFlight c XA (Ring.bk 8 (k + 2)) 3)
      ∗ (inBlkP c XA (Ring.bk 8 (k + 1)) 0 ∗ inBlkP c XA (Ring.bk 8 (k + 1)) 1 ∗ inBlkP c XA (Ring.bk 8 (k + 1)) 2 ∗ inBlkP c XA (Ring.bk 8 (k + 1)) 3)
      ∗ (outFlight c XA (Ring.bk 8 (k + 1)) 0 ∗ outFlight c XA (Ring.bk 8 (k + 1)) 1 ∗ outFlight c XA (Ring.bk 8 (k + 1)) 2 ∗ outFlight c XA (Ring.bk 8 (k + 1)) 3)
      ∗ (doneP c XA (Ring.bk 8 k) 0 ∗ doneP c XA (Ring.bk 8 k) 1 ∗ doneP c XA (Ring.bk 8 k) 2 ∗ doneP c XA (Ring.bk 8 k) 3))

set_option backward.proofsInPublic true in
/-- One trip of the loop moves the two rings one round on. -/
theorem tripRun (k : Fin k0_t1_loop.trips) (Q : Unit → sProp 𝕄) :
    iprop(tripPre c XA XO k.val ∗ (tripPost c XA k.val -∗ Q ()))
      ⊢ wp frame (wpE (defs₀ (F := F)) 𝒱₀ (c : Thread nD τ) none) Set.univ (tripG v454 v457 v464 v507 v534 v539 v544 cst_255 k)
        Q := by
  unfold tripPre
  iintro ⟨⟨⟨%W, HW⟩, ⟨HI0, HI1, HI2, HI3⟩, ⟨HB0, HB1, HB2, HB3⟩, ⟨HO0, HO1, HO2, HO3⟩, ⟨HR0, HR1, HR2, HR3⟩⟩, Hk⟩
  dsimp only [tripG]
  sl_unfold [k0_t1_body]
  sl_exec
  sl_step
  iapply Hk
  unfold tripPost
  isplitl [HW]
  · iexists _; iexact HW
  isplitl [HI0 HI1 HI2 HI3]
  · isplitl [HI0]
    · iapply (inFlight_started c XA (Ring.bk 8 (k.val + 2)) 0 _) $$ [HI0]; iexact HI0
    isplitl [HI1]
    · iapply (inFlight_started c XA (Ring.bk 8 (k.val + 2)) 1 _) $$ [HI1]; iexact HI1
    isplitl [HI2]
    · iapply (inFlight_started c XA (Ring.bk 8 (k.val + 2)) 2 _) $$ [HI2]; iexact HI2
    · iapply (inFlight_started c XA (Ring.bk 8 (k.val + 2)) 3 _) $$ [HI3]; iexact HI3
  isplitl [HI0_src HI1_src HI2_src HI3_src]
  · iframe
  isplitl [HO0 HO1 HO2 HO3]
  · isplitl [HO0]
    · iapply (outFlight_started c XA XO (Ring.bk 8 (k.val + 1)) 0 _ _ (View.read_rep _ _) _ _) $$ [HO0]; iexact HO0
    isplitl [HO1]
    · iapply (outFlight_started c XA XO (Ring.bk 8 (k.val + 1)) 1 _ _ (View.read_rep _ _) _ _) $$ [HO1]; iexact HO1
    isplitl [HO2]
    · iapply (outFlight_started c XA XO (Ring.bk 8 (k.val + 1)) 2 _ _ (View.read_rep _ _) _ _) $$ [HO2]; iexact HO2
    · iapply (outFlight_started c XA XO (Ring.bk 8 (k.val + 1)) 3 _ _ (View.read_rep _ _) _ _) $$ [HO3]; iexact HO3
  · iframe

end Trip
end Cert.Proof.KernelIdeal

end
-- ==== Proof.KernelIdeal.Body.lean ====
module

public import proofs.«01_k».proof.Proof.KernelIdeal.Trip

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section Body
variable (c : Dev nD) (XA : Buf (Elt F) (cpM.view.loc (c : Thread nD τ))) (XO : Buf (Elt F) (resM.view.loc (c : Thread nD τ)))

/-- The four blocks of a round: of the codepoints; of the result, at contents `f`; in flight in; in flight out. -/
def inQuad (r : Fin 8) : sProp 𝕄 := iprop(inBlkP c XA r 0 ∗ inBlkP c XA r 1 ∗ inBlkP c XA r 2 ∗ inBlkP c XA r 3)
def outQuad (f : Buf (Elt F) (resM.view.loc (c : Thread nD τ))) (r : Fin 8) : sProp 𝕄 :=
  iprop(outBlkP c r 0 f ∗ outBlkP c r 1 f ∗ outBlkP c r 2 f ∗ outBlkP c r 3 f)
def inFl (r : Fin 8) : sProp 𝕄 := iprop(inFlight c XA r 0 ∗ inFlight c XA r 1 ∗ inFlight c XA r 2 ∗ inFlight c XA r 3)
def outFl (r : Fin 8) : sProp 𝕄 := iprop(outFlight c XA r 0 ∗ outFlight c XA r 1 ∗ outFlight c XA r 2 ∗ outFlight c XA r 3)

/-- The rounds at rest before trip `k`: of the codepoints all but round `k + 1`; of the result all but round `k`, those
    before it done. -/
def inHome (k : ℕ) : sProp 𝕄 := bigSep (Finset.univ.erase (Ring.bk 8 (k + 1))) (inQuad c XA)
def outHome (k : ℕ) : sProp 𝕄 := bigSep (Finset.univ.erase (Ring.bk 8 k)) fun r => outQuad c (if r.val < k then result c XA else XO) r

/-- The loop's invariant before trip `k`. -/
def Inv (k : ℕ) (_ : Unit) : sProp 𝕄 :=
  iprop((∃ W, owes (c : Thread nD τ) 0 W) ∗ inFl c XA (Ring.bk 8 (k + 1)) ∗ outFl c XA (Ring.bk 8 k) ∗ inHome c XA k ∗ outHome c XA XO k)

/-- Of a separating conjunction over all rounds but one, another round apart. -/
theorem bigSep_take (P : Fin 8 → sProp 𝕄) (a b : Fin 8) (h : b ≠ a) :
    bigSep (Finset.univ.erase a) P = iprop(P b ∗ bigSep ((Finset.univ.erase a).erase b) P) := by
  exact (congrArg (fun S => bigSep S P) (Finset.insert_erase (Finset.mem_erase.mpr ⟨h, Finset.mem_univ b⟩)).symm).trans (bigSep_insert (Finset.notMem_erase b _))
/-- Over all rounds, one apart. -/
theorem bigSep_one (P : Fin 8 → sProp 𝕄) (a : Fin 8) :
    bigSep Finset.univ P = iprop(P a ∗ bigSep (Finset.univ.erase a) P) := by
  exact (congrArg (fun S => bigSep S P) (Finset.insert_erase (Finset.mem_univ a)).symm).trans (bigSep_insert (Finset.notMem_erase a _))

theorem inHome_take (k : ℕ) (hk : k < 6) : inHome c XA k
    = iprop(inQuad c XA (Ring.bk 8 (k + 2)) ∗ bigSep ((Finset.univ.erase (Ring.bk 8 (k + 1))).erase (Ring.bk 8 (k + 2))) (inQuad c XA)) :=
  bigSep_take _ _ _ (by intro h; have := congrArg Fin.val h; rw [show (Ring.bk 8 (k + 2)).val = (k + 2) % 8 from rfl, show (Ring.bk 8 (k + 1)).val = (k + 1) % 8 from rfl] at this; omega)
theorem inHome_next (k : ℕ) (hk : k < 6) : inHome c XA (k + 1)
    = iprop(inQuad c XA (Ring.bk 8 (k + 1)) ∗ bigSep ((Finset.univ.erase (Ring.bk 8 (k + 1))).erase (Ring.bk 8 (k + 2))) (inQuad c XA)) := by
  rw [Finset.erase_right_comm]
  exact bigSep_take _ _ _ (by intro h; have := congrArg Fin.val h; rw [show (Ring.bk 8 (k + 1 + 1)).val = (k + 1 + 1) % 8 from rfl, show (Ring.bk 8 (k + 1)).val = (k + 1) % 8 from rfl] at this; omega)

theorem outHome_take (k : ℕ) (hk : k < 7) : outHome c XA XO k
    = iprop(outQuad c XO (Ring.bk 8 (k + 1)) ∗ bigSep ((Finset.univ.erase (Ring.bk 8 k)).erase (Ring.bk 8 (k + 1))) fun r => outQuad c (if r.val < k then result c XA else XO) r) := by
  have e : (Ring.bk 8 (k + 1)).val = (k + 1) % 8 := rfl
  have e' : (Ring.bk 8 k).val = k % 8 := rfl
  unfold outHome
  rw [bigSep_take _ _ (Ring.bk 8 (k + 1)) (by intro h; have := congrArg Fin.val h; omega), if_neg (by omega)]
theorem outHome_next (k : ℕ) (hk : k < 7) : outHome c XA XO (k + 1)
    = iprop(outQuad c (result c XA) (Ring.bk 8 k) ∗ bigSep ((Finset.univ.erase (Ring.bk 8 k)).erase (Ring.bk 8 (k + 1))) fun r => outQuad c (if r.val < k then result c XA else XO) r) := by
  have e : (Ring.bk 8 (k + 1)).val = (k + 1) % 8 := rfl
  have e' : (Ring.bk 8 k).val = k % 8 := rfl
  unfold outHome
  rw [bigSep_take _ _ (Ring.bk 8 k) (by intro h; have := congrArg Fin.val h; omega), if_pos (by omega), Finset.erase_right_comm]
  congr 1
  refine bigSep_congr fun r hr => ?_
  have h1 : r ≠ Ring.bk 8 k := (Finset.mem_erase.mp (Finset.mem_erase.mp hr).2).1
  have h2 : r.val ≠ k := fun h => h1 (Fin.ext (by omega))
  by_cases h : r.val < k
  · rw [if_pos h, if_pos (by omega)]
  · rw [if_neg h, if_neg (by omega)]

/-- One trip carries the invariant on. -/
theorem Inv_step (v454 : FVec F S32x128x1 .f32) (v457 : FVec F S32x128x1 .f32) (v464 : FVec F S32x128x32 .bf16) (v507 : IVec S32x384 1) (v534 : IVec S32x384 1) (v539 : FVec F S32x384 .f32) (v544 : FVec F S32x384 .f32) (cst_255 : F .f32)
    (k : Fin k0_t1_loop.trips) :
    Inv c XA XO k.val ()
      ⊢ wp frame (wpE (defs₀ (F := F)) 𝒱₀ (c : Thread nD τ) none) Set.univ (tripG v454 v457 v464 v507 v534 v539 v544 cst_255 k)
        (fun a => Inv c XA XO (k.val + 1) a) := by
  have hk : k.val < 6 := lt_of_lt_of_eq k.isLt trips_eq
  refine BIBase.Entails.trans ?_ (tripRun c XA XO v454 v457 v464 v507 v534 v539 v544 cst_255 k _)
  unfold Inv tripPre tripPost
  rw [inHome_take c XA k.val hk, inHome_next c XA k.val hk, outHome_take c XA XO k.val (by omega), outHome_next c XA XO k.val (by omega)]
  unfold inFl outFl inQuad outQuad
  iintro ⟨HW, HI, HO, ⟨HB, Hin⟩, HR, Hout⟩
  isplitl [HW HI HO HB HR]
  · isplitl [HW]; · iexact HW
    isplitl [HI]; · iexact HI
    isplitl [HB]; · iexact HB
    isplitl [HO]; · iexact HO
    iexact HR
  · iintro ⟨HW, HI, HB, HO, HR⟩
    isplitl [HW]; · iexact HW
    isplitl [HI]; · iexact HI
    isplitl [HO]; · iexact HO
    isplitl [HB Hin]
    · isplitl [HB]; · iexact HB
      iexact Hin
    isplitl [HR]; · iexact HR
    iexact Hout

/-! ## The body -/

abbrev bodyG : Prog (TpuEff nD τ sig (Elt F) Λ₀ .tc) PUnit :=
  cc0__retvec_kernel (F := F) cpM (Memref.isWhole_whole _) resM (Memref.isWhole_whole _) ringI (Memref.isWhole_whole _) ringO (Memref.isWhole_whole _) cc0_scratch2 cc0_scratch3

/-- The slots at any contents, the cells at zero. -/
def slots : sProp 𝕄 :=
  iprop(((∃ f, inSlotP c 0 f) ∗ (∃ f, inSlotP c 1 f) ∗ (∃ f, inSlotP c 2 f) ∗ ∃ f, inSlotP c 3 f)
    ∗ ((∃ f, outSlotP c 0 f) ∗ (∃ f, outSlotP c 1 f) ∗ (∃ f, outSlotP c 2 f) ∗ ∃ f, outSlotP c 3 f)
    ∗ (inCell (F := F) c 0 ∗ inCell (F := F) c 1 ∗ inCell (F := F) c 2 ∗ inCell (F := F) c 3)
    ∗ (outCell (F := F) c 0 ∗ outCell (F := F) c 1 ∗ outCell (F := F) c 2 ∗ outCell (F := F) c 3))

/-- What the loop starts from is its invariant before trip 0. -/
theorem Inv_entry (W : Waits sig Unit) :
    iprop(owes (c : Thread nD τ) 0 W ∗ inFl c XA 1 ∗ outFl c XA 0
      ∗ (inQuad c XA 0 ∗ bigSep ((Finset.univ.erase 1).erase 0) (inQuad c XA)) ∗ bigSep (Finset.univ.erase 0) (outQuad c XO))
      ⊢ Inv c XA XO 0 () := by
  unfold Inv inHome outHome
  rw [show Ring.bk 8 0 = 0 from rfl, show Ring.bk 8 (0 + 1) = 1 from rfl, bigSep_take (inQuad c XA) 1 0 (by decide),
    bigSep_congr (Φ := fun r : Fin 8 => outQuad c (if r.val < 0 then result c XA else XO) r) (Ψ := fun r : Fin 8 => outQuad c XO r) fun r _ => by rw [if_neg (by omega)]]
  iintro ⟨HW, HI, HO, HB, HR⟩
  isplitl [HW]; · iexists W; iexact HW
  isplitl [HI]; · iexact HI
  isplitl [HO]; · iexact HO
  isplitl [HB]; · iexact HB
  iexact HR

/-- What it leaves. -/
theorem Inv_exit (u : Unit) :
    Inv c XA XO k0_t1_loop.trips u ⊢ iprop((∃ W, owes (c : Thread nD τ) 0 W) ∗ inFl c XA 7 ∗ outFl c XA 6
      ∗ bigSep (Finset.univ.erase 7) (inQuad c XA) ∗ outQuad c XO 7
      ∗ bigSep ((Finset.univ.erase 6).erase 7) (outQuad c (result c XA))) := by
  unfold Inv
  rw [trips_eq, outHome_take c XA XO 6 (by decide)]
  unfold inHome
  rw [show Ring.bk 8 6 = 6 from rfl, show Ring.bk 8 (6 + 1) = 7 from rfl,
    bigSep_congr (Φ := fun r : Fin 8 => outQuad c (if r.val < 6 then result c XA else XO) r) (Ψ := fun r : Fin 8 => outQuad c (result c XA) r) fun r hr => by
      rw [if_pos (by
        have h7 : r ≠ 7 := (Finset.mem_erase.mp hr).1
        have h6 : r ≠ 6 := (Finset.mem_erase.mp (Finset.mem_erase.mp hr).2).1
        revert h6 h7; revert r; decide)]]

theorem entails_of_eq {P Q : sProp 𝕄} (e : P = Q) : P ⊢ Q := e ▸ .rfl

/-- All the blocks of the codepoints, rounds 1 and 0 apart; of the result, round 0 apart. -/
theorem in_split : bigSep Finset.univ (inQuad c XA)
    ⊢ iprop((inBlkP c XA 1 0 ∗ inBlkP c XA 1 1 ∗ inBlkP c XA 1 2 ∗ inBlkP c XA 1 3) ∗ (inBlkP c XA 0 0 ∗ inBlkP c XA 0 1 ∗ inBlkP c XA 0 2 ∗ inBlkP c XA 0 3)
      ∗ bigSep ((Finset.univ.erase 1).erase 0) (inQuad c XA)) := by
  refine entails_of_eq ?_
  rw [bigSep_one (inQuad c XA) 1, bigSep_take (inQuad c XA) 1 0 (by decide)]; rfl
theorem out_split : bigSep Finset.univ (outQuad c XO)
    ⊢ iprop((outBlkP c 0 0 XO ∗ outBlkP c 0 1 XO ∗ outBlkP c 0 2 XO ∗ outBlkP c 0 3 XO) ∗ bigSep (Finset.univ.erase 0) (outQuad c XO)) := by
  refine entails_of_eq ?_
  rw [bigSep_one (outQuad c XO) 0]; rfl
/-- All the blocks of the codepoints from round 7's and the others; of the result from rounds 6's and 7's and the others. -/
theorem in_join : iprop((inBlkP c XA 7 0 ∗ inBlkP c XA 7 1 ∗ inBlkP c XA 7 2 ∗ inBlkP c XA 7 3) ∗ bigSep (Finset.univ.erase 7) (inQuad c XA))
    ⊢ bigSep Finset.univ (inQuad c XA) := by
  refine entails_of_eq ?_
  rw [bigSep_one (inQuad c XA) 7]; rfl
theorem out_join : iprop((doneP c XA 6 0 ∗ doneP c XA 6 1 ∗ doneP c XA 6 2 ∗ doneP c XA 6 3) ∗ (doneP c XA 7 0 ∗ doneP c XA 7 1 ∗ doneP c XA 7 2 ∗ doneP c XA 7 3)
      ∗ bigSep ((Finset.univ.erase 6).erase 7) (outQuad c (result c XA)))
    ⊢ bigSep Finset.univ (outQuad c (result c XA)) := by
  refine entails_of_eq ?_
  rw [bigSep_one (outQuad c (result c XA)) 6, bigSep_take (outQuad c (result c XA)) 6 7 (by decide)]; rfl

set_option backward.proofsInPublic true in
/-- The body computes the whole result, gives the codepoints back and leaves every slot and every cell free. -/
theorem bodyRun (Q : PUnit → sProp 𝕄) :
    iprop(((∃ W, owes (c : Thread nD τ) 0 W) ∗ slots (F := F) c ∗ bigSep Finset.univ (inQuad c XA) ∗ bigSep Finset.univ (outQuad c XO))
        ∗ (((∃ W, owes (c : Thread nD τ) 0 W) ∗ slots (F := F) c ∗ bigSep Finset.univ (inQuad c XA) ∗ bigSep Finset.univ (outQuad c (result c XA))) -∗ Q ⟨⟩))
      ⊢ wp frame (wpE (defs₀ (F := F)) 𝒱₀ (c : Thread nD τ) none) Set.univ (bodyG (F := F)) Q := by
  unfold slots
  iintro ⟨⟨⟨%W, HW⟩, ⟨⟨⟨%f0, HS0⟩, ⟨%f1, HS1⟩, ⟨%f2, HS2⟩, ⟨%f3, HS3⟩⟩, ⟨⟨%g0, HT0⟩, ⟨%g1, HT1⟩, ⟨%g2, HT2⟩, ⟨%g3, HT3⟩⟩, ⟨HI0, HI1, HI2, HI3⟩, ⟨HO0, HO1, HO2, HO3⟩⟩, HA, HD⟩, Hk⟩
  ihave HA' := (in_split c XA) $$ HA
  ihave HD' := (out_split c XO) $$ HD
  icases HA' with ⟨⟨HB10, HB11, HB12, HB13⟩, ⟨HB00, HB01, HB02, HB03⟩, HB⟩
  icases HD' with ⟨⟨HR0, HR1, HR2, HR3⟩, HR⟩
  sl_exec
  sl_for (Inv c XA XO) $$ [HW HI0 HI1 HI2 HI3 HO0 HO1 HO2 HO3 HB00 HB01 HB02 HB03 HB HR]
  · intro k acc; exact Inv_step c XA XO _ _ _ _ _ _ _ _ k
  · iapply (Inv_entry c XA XO _)
    isplitl [HW]; · iexact HW
    unfold inFl outFl
    isplitl [HI0 HI1 HI2 HI3]
    ·
      isplitl [HI0]
      · iapply (inFlight_started c XA 1 0 _) $$ [HI0]; iexact HI0
      isplitl [HI1]
      · iapply (inFlight_started c XA 1 1 _) $$ [HI1]; iexact HI1
      isplitl [HI2]
      · iapply (inFlight_started c XA 1 2 _) $$ [HI2]; iexact HI2
      iapply (inFlight_started c XA 1 3 _) $$ [HI3]; iexact HI3
    isplitl [HO0 HO1 HO2 HO3]
    ·
      isplitl [HO0]
      · iapply (outFlight_started c XA XO 0 0 _ _ (View.read_writes_whole _ _ _) _ _) $$ [HO0]; iexact HO0
      isplitl [HO1]
      · iapply (outFlight_started c XA XO 0 1 _ _ (View.read_writes_whole _ _ _) _ _) $$ [HO1]; iexact HO1
      isplitl [HO2]
      · iapply (outFlight_started c XA XO 0 2 _ _ (View.read_writes_whole _ _ _) _ _) $$ [HO2]; iexact HO2
      iapply (outFlight_started c XA XO 0 3 _ _ (View.read_writes_whole _ _ _) _ _) $$ [HO3]; iexact HO3
    isplitr [HR]
    · isplitr [HB]
      · unfold inQuad
        isplitl [HB00]; · iexact HB00
        isplitl [HB01]; · iexact HB01
        isplitl [HB02]; · iexact HB02
        iexact HB03
      iexact HB
    iexact HR
  iintro %acc HI
  ihave HE := (Inv_exit c XA XO acc) $$ HI
  unfold inFl outFl
  rw [show outQuad c XO 7 = iprop(outBlkP c 7 0 XO ∗ outBlkP c 7 1 XO ∗ outBlkP c 7 2 XO ∗ outBlkP c 7 3 XO) from rfl]
  icases HE with ⟨⟨%W', HW⟩, ⟨HI0, HI1, HI2, HI3⟩, ⟨HO0, HO1, HO2, HO3⟩, HB, ⟨HR0, HR1, HR2, HR3⟩, HR⟩
  sl_exec
  sl_step
  iapply Hk
  isplitl [HW]; · iexists _; iexact HW
  isplitl [HI0_dst HI1_dst HI2_dst HI3_dst HO0_src HO1_src HO2_src HO3_src HI0 HI1 HI2 HI3 HO0 HO1 HO2 HO3]
  · isplitl [HI0_dst HI1_dst HI2_dst HI3_dst]
    · isplitl [HI0_dst]; · iexists _; iexact HI0_dst
      isplitl [HI1_dst]; · iexists _; iexact HI1_dst
      isplitl [HI2_dst]; · iexists _; iexact HI2_dst
      iexists _; iexact HI3_dst
    isplitl [HO0_src HO1_src HO2_src HO3_src]
    · isplitl [HO0_src]; · iexists _; iexact HO0_src
      isplitl [HO1_src]; · iexists _; iexact HO1_src
      isplitl [HO2_src]; · iexists _; iexact HO2_src
      iexists _; iexact HO3_src
    isplitl [HI0 HI1 HI2 HI3]
    · isplitl [HI0]; · iexact HI0
      isplitl [HI1]; · iexact HI1
      isplitl [HI2]; · iexact HI2
      iexact HI3
    isplitl [HO0]; · iexact HO0
    isplitl [HO1]; · iexact HO1
    isplitl [HO2]; · iexact HO2
    iexact HO3
  isplitl [HI0_src HI1_src HI2_src HI3_src HB]
  · iapply (in_join c XA)
    isplitl [HI0_src HI1_src HI2_src HI3_src]
    · isplitl [HI0_src]; · iexact HI0_src
      isplitl [HI1_src]; · iexact HI1_src
      isplitl [HI2_src]; · iexact HI2_src
      iexact HI3_src
    iexact HB
  iapply (out_join c XA)
  isplitl [HO0_dst HO1_dst HO2_dst HO3_dst]
  · isplitl [HO0_dst]; · iexact HO0_dst
    isplitl [HO1_dst]; · iexact HO1_dst
    isplitl [HO2_dst]; · iexact HO2_dst
    iexact HO3_dst
  isplitl [HR0 HR1 HR2 HR3]
  · isplitl [HR0]; · iapply (entails_of_eq (outBlk_copied c XA XO 7 0 _ _ (View.read_rep _ _) _ _)); iexact HR0
    isplitl [HR1]; · iapply (entails_of_eq (outBlk_copied c XA XO 7 1 _ _ (View.read_rep _ _) _ _)); iexact HR1
    isplitl [HR2]; · iapply (entails_of_eq (outBlk_copied c XA XO 7 2 _ _ (View.read_rep _ _) _ _)); iexact HR2
    iapply (entails_of_eq (outBlk_copied c XA XO 7 3 _ _ (View.read_rep _ _) _ _)); iexact HR3
  iexact HR

end Body
end Cert.Proof.KernelIdeal

end
-- ==== Proof.KernelIdeal.Run.lean ====
/-
  The launch: the codepoints and the result are cut into their blocks, the two rings into their slots, the body is
  run, and the blocks are put together again.
-/
module

public import proofs.«01_k».proof.Proof.KernelIdeal.Body

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ
abbrev EP : Emb (UR sig nD τ) (MT nD τ sig Unit (Elt F) ℕ (UU nD τ) ℕ) := embL

variable (m : (ℓ : Loc nD τ sig) → Buf (Elt F) ℓ) (ρ : Dev nD → PrngReg)

/-- Memory at launch. -/
abbrev s₀ : MemSt nD τ sig (Elt F) := ⟨m, fun _ => 0, ρ⟩
/-- The codepoints at launch; the result's array at launch. -/
abbrev cpAt (c : Dev nD) : Buf (Elt F) (cpM.view.loc (c : Thread nD τ)) := m ((c : Thread nD τ).loc main_arg0)
abbrev resAt (c : Dev nD) : Buf (Elt F) (resM.view.loc (c : Thread nD τ)) := m ((c : Thread nD τ).loc main_v0)

/-! ## The kernel's own semaphores -/

/-- The eight cells: the input slots' and then the output slots'. -/
abbrev osem : Fin 8 → SemLoc sig := fun s => if h : s.val < 4 then .dma (inSem ⟨s.val, h⟩).sem else .dma (outSem ⟨s.val - 4, by omega⟩).sem
theorem ownSemFacts : Pipeline.OwnSemFacts (cfg0.spec) osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem ownSems0_eq (c : Dev nD) : (Pipeline.ownSems0 (Ix := Unit) (Name := ℕ) (U := UU nD τ) (Lvl := ℕ) (Val := Elt F) (τ := τ) osem c : sProp 𝕄)
    = iprop(inCell (F := F) c 0 ∗ inCell (F := F) c 1 ∗ inCell (F := F) c 2 ∗ inCell (F := F) c 3
      ∗ outCell (F := F) c 0 ∗ outCell (F := F) c 1 ∗ outCell (F := F) c 2 ∗ outCell (F := F) c 3) := by
  unfold Pipeline.ownSems0; rw [bigSep_fin8]; rfl

/-! ## Element sets -/

/-- The elements of block `(r, s)` of the codepoints, of the result; of slot `s` of either ring. -/
abbrev inSet (p : Fin 8 × Fin 4) : Finset S1024x128x16.Idx := (Rect.unit (s := S1024x128x16) (blkOff p.1 p.2) S32x128x16.size (blkOffI_inb p.1 p.2)).set
abbrev outSet (p : Fin 8 × Fin 4) : Finset S1024x128x384.Idx := (Rect.unit (s := S1024x128x384) (blkOff p.1 p.2) S32x128x384.size (blkOffO_inb p.1 p.2)).set
abbrev inSlotSet (s : Fin 4) : Finset S4x32x128x16.Idx := (Rect.unit (s := S4x32x128x16) (slotOff s) S1x32x128x16.size (slotOffI_inb s)).set
abbrev outSlotSet (s : Fin 4) : Finset S4x32x128x384.Idx := (Rect.unit (s := S4x32x128x384) (slotOff s) S1x32x128x384.size (slotOffO_inb s)).set

theorem mem_inSet (p : Fin 8 × Fin 4) (y : S1024x128x16.Idx) : y ∈ inSet p ↔ (y 0).val / 32 = 4 * p.1.val + p.2.val := by
  rw [Rect.mem_set_unit]
  have h1 : (y 1).val < 128 := (y 1).isLt
  have h2 : (y 2).val < 16 := (y 2).isLt
  constructor
  · intro H; have a0 : (4 * p.1.val + p.2.val) * 32 ≤ (y 0).val ∧ (y 0).val < (4 * p.1.val + p.2.val) * 32 + 32 := H 0; omega
  · intro H i; fin_cases i
    · show (4 * p.1.val + p.2.val) * 32 ≤ (y 0).val ∧ (y 0).val < (4 * p.1.val + p.2.val) * 32 + 32; omega
    · show 0 ≤ (y 1).val ∧ (y 1).val < 0 + 128; omega
    · show 0 ≤ (y 2).val ∧ (y 2).val < 0 + 16; omega
theorem mem_outSet (p : Fin 8 × Fin 4) (y : S1024x128x384.Idx) : y ∈ outSet p ↔ (y 0).val / 32 = 4 * p.1.val + p.2.val := by
  rw [Rect.mem_set_unit]
  have h1 : (y 1).val < 128 := (y 1).isLt
  have h2 : (y 2).val < 384 := (y 2).isLt
  constructor
  · intro H; have a0 : (4 * p.1.val + p.2.val) * 32 ≤ (y 0).val ∧ (y 0).val < (4 * p.1.val + p.2.val) * 32 + 32 := H 0; omega
  · intro H i; fin_cases i
    · show (4 * p.1.val + p.2.val) * 32 ≤ (y 0).val ∧ (y 0).val < (4 * p.1.val + p.2.val) * 32 + 32; omega
    · show 0 ≤ (y 1).val ∧ (y 1).val < 0 + 128; omega
    · show 0 ≤ (y 2).val ∧ (y 2).val < 0 + 384; omega
theorem mem_inSlotSet (s : Fin 4) (y : S4x32x128x16.Idx) : y ∈ inSlotSet s ↔ (y 0).val = s.val := by
  rw [Rect.mem_set_unit]
  have h1 : (y 1).val < 32 := (y 1).isLt
  have h2 : (y 2).val < 128 := (y 2).isLt
  have h3 : (y 3).val < 16 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 32; omega
    · show 0 ≤ (y 2).val ∧ (y 2).val < 0 + 128; omega
    · show 0 ≤ (y 3).val ∧ (y 3).val < 0 + 16; omega
theorem mem_outSlotSet (s : Fin 4) (y : S4x32x128x384.Idx) : y ∈ outSlotSet s ↔ (y 0).val = s.val := by
  rw [Rect.mem_set_unit]
  have h1 : (y 1).val < 32 := (y 1).isLt
  have h2 : (y 2).val < 128 := (y 2).isLt
  have h3 : (y 3).val < 384 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 32; omega
    · show 0 ≤ (y 2).val ∧ (y 2).val < 0 + 128; omega
    · show 0 ≤ (y 3).val ∧ (y 3).val < 0 + 384; omega

theorem pair_ext (p p' : Fin 8 × Fin 4) (h : 4 * p.1.val + p.2.val = 4 * p'.1.val + p'.2.val) : p = p' := by
  have h1 := p.2.isLt
  have h2 := p'.2.isLt
  exact Prod.ext (Fin.ext (by omega)) (Fin.ext (by omega))
/-- The block a row lies in. -/
def pairOf (n : ℕ) (h : n < 1024) : Fin 8 × Fin 4 := (⟨n / 128, by omega⟩, ⟨n / 32 % 4, by omega⟩)
theorem pairOf_eq (n : ℕ) (h : n < 1024) : n / 32 = 4 * (pairOf n h).1.val + (pairOf n h).2.val := by
  show n / 32 = 4 * (n / 128) + n / 32 % 4; omega

theorem inSet_disjoint : ∀ p p', p ≠ p' → Disjoint (inSet p) (inSet p') := by
  intro p p' hne; rw [Finset.disjoint_left]; intro y hy hy'; rw [mem_inSet] at hy hy'; exact hne (pair_ext _ _ (hy.symm.trans hy'))
theorem inSet_cover : (Finset.univ : Finset (Fin 8 × Fin 4)).biUnion inSet = Finset.univ := by
  ext y; simp only [Finset.mem_biUnion, Finset.mem_univ, true_and, iff_true]; exact ⟨pairOf (y 0).val (y 0).isLt, by rw [mem_inSet]; exact pairOf_eq _ _⟩
theorem outSet_disjoint : ∀ p p', p ≠ p' → Disjoint (outSet p) (outSet p') := by
  intro p p' hne; rw [Finset.disjoint_left]; intro y hy hy'; rw [mem_outSet] at hy hy'; exact hne (pair_ext _ _ (hy.symm.trans hy'))
theorem outSet_cover : (Finset.univ : Finset (Fin 8 × Fin 4)).biUnion outSet = Finset.univ := by
  ext y; simp only [Finset.mem_biUnion, Finset.mem_univ, true_and, iff_true]; exact ⟨pairOf (y 0).val (y 0).isLt, by rw [mem_outSet]; exact pairOf_eq _ _⟩
theorem inSlotSet_disjoint : ∀ s s', s ≠ s' → Disjoint (inSlotSet s) (inSlotSet s') := by
  intro s s' hne; rw [Finset.disjoint_left]; intro y hy hy'; rw [mem_inSlotSet] at hy hy'; exact hne (Fin.ext (hy.symm.trans hy'))
theorem inSlotSet_cover : (Finset.univ : Finset (Fin 4)).biUnion inSlotSet = Finset.univ := by
  ext y; simp only [Finset.mem_biUnion, Finset.mem_univ, true_and, iff_true]; exact ⟨(y 0).cast (by decide), by rw [mem_inSlotSet]; rfl⟩
theorem outSlotSet_disjoint : ∀ s s', s ≠ s' → Disjoint (outSlotSet s) (outSlotSet s') := by
  intro s s' hne; rw [Finset.disjoint_left]; intro y hy hy'; rw [mem_outSlotSet] at hy hy'; exact hne (Fin.ext (hy.symm.trans hy'))
theorem outSlotSet_cover : (Finset.univ : Finset (Fin 4)).biUnion outSlotSet = Finset.univ := by
  ext y; simp only [Finset.mem_biUnion, Finset.mem_univ, true_and, iff_true]; exact ⟨(y 0).cast (by decide), by rw [mem_outSlotSet]; rfl⟩

theorem inBlk_set (p : Fin 8 × Fin 4) : (inBlk p.1 p.2).view.set = inSet p := View.set_slice_whole _ _
theorem outBlk_set (p : Fin 8 × Fin 4) : (outBlk p.1 p.2).view.set = outSet p := View.set_slice_whole _ _
theorem inSlot_set (s : Fin 4) : (inSlot s).view.set = inSlotSet s := (View.set_reshape _ _).trans (View.set_slice_whole _ _)
theorem outSlot_set (s : Fin 4) : (outSlot s).view.set = outSlotSet s := (View.set_reshape _ _).trans (View.set_slice_whole _ _)

/-- A conjunction over all blocks, round by round. -/
theorem bigSep_pairs (Φ : Fin 8 × Fin 4 → sProp 𝕄) :
    bigSep Finset.univ Φ = bigSep Finset.univ fun r : Fin 8 => iprop(Φ (r, 0) ∗ Φ (r, 1) ∗ Φ (r, 2) ∗ Φ (r, 3)) := by
  refine (bigSep_univ_prod Φ).trans ?_
  exact bigSep_congr fun r _ => bigSep_fin4 _

/-- The codepoints whole are their blocks; -/
theorem cp_eq (c : Dev nD) (f : Buf (Elt F) (cpM.view.loc (c : Thread nD τ))) :
    (((c : Thread nD τ).loc main_arg0) ↦{fullShare} f : sProp 𝕄) = bigSep Finset.univ (inQuad c f) := by
  rw [Ring.pointsTo_blocks (ℓ := (c : Thread nD τ).loc main_arg0) inSet inSet_disjoint inSet_cover, bigSep_pairs]
  refine bigSep_congr fun r _ => ?_
  unfold inQuad
  rw [← inBlk_set, ← inBlk_set, ← inBlk_set, ← inBlk_set]; rfl
/-- the result whole its blocks. -/
theorem res_eq (c : Dev nD) (f : Buf (Elt F) (resM.view.loc (c : Thread nD τ))) :
    (((c : Thread nD τ).loc main_v0) ↦{fullShare} f : sProp 𝕄) = bigSep Finset.univ (outQuad c f) := by
  rw [Ring.pointsTo_blocks (ℓ := (c : Thread nD τ).loc main_v0) outSet outSet_disjoint outSet_cover, bigSep_pairs]
  refine bigSep_congr fun r _ => ?_
  unfold outQuad
  rw [← outBlk_set, ← outBlk_set, ← outBlk_set, ← outBlk_set]; rfl

theorem inSlotP_eq (c : Dev nD) (s : Fin 4) (f) : inSlotP (F := F) c s f = (((c : Thread nD τ).loc cc0_scratch0) ↦[inSlotSet s]{fullShare} f : sProp 𝕄) :=
  congrArg (fun S => (_ ↦[S]{fullShare} f : sProp 𝕄)) (inSlot_set s)
theorem outSlotP_eq (c : Dev nD) (s : Fin 4) (f) : outSlotP (F := F) c s f = (((c : Thread nD τ).loc cc0_scratch1) ↦[outSlotSet s]{fullShare} f : sProp 𝕄) :=
  congrArg (fun S => (_ ↦[S]{fullShare} f : sProp 𝕄)) (outSlot_set s)

/-- A ring whole is its slots, and back. -/
theorem ringI_split (c : Dev nD) :
    iprop(∃ f : Buf (Elt F) ((c : Thread nD τ).loc cc0_scratch0), ((c : Thread nD τ).loc cc0_scratch0) ↦{fullShare} f)
      ⊢ (iprop((∃ f, inSlotP c 0 f) ∗ (∃ f, inSlotP c 1 f) ∗ (∃ f, inSlotP c 2 f) ∗ ∃ f, inSlotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) inSlotSet inSlotSet_disjoint inSlotSet_cover f).trans (bigSep_fin4 _))) $$ H
  icases H2 with ⟨H0, H1, H2, H3⟩
  isplitl [H0]; · iexists f; iapply (entails_of_eq (inSlotP_eq c 0 f).symm); iexact H0
  isplitl [H1]; · iexists f; iapply (entails_of_eq (inSlotP_eq c 1 f).symm); iexact H1
  isplitl [H2]; · iexists f; iapply (entails_of_eq (inSlotP_eq c 2 f).symm); iexact H2
  iexists f; iapply (entails_of_eq (inSlotP_eq c 3 f).symm); iexact H3
theorem ringO_split (c : Dev nD) :
    iprop(∃ f : Buf (Elt F) ((c : Thread nD τ).loc cc0_scratch1), ((c : Thread nD τ).loc cc0_scratch1) ↦{fullShare} f)
      ⊢ (iprop((∃ f, outSlotP c 0 f) ∗ (∃ f, outSlotP c 1 f) ∗ (∃ f, outSlotP c 2 f) ∗ ∃ f, outSlotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) outSlotSet outSlotSet_disjoint outSlotSet_cover f).trans (bigSep_fin4 _))) $$ H
  icases H2 with ⟨H0, H1, H2, H3⟩
  isplitl [H0]; · iexists f; iapply (entails_of_eq (outSlotP_eq c 0 f).symm); iexact H0
  isplitl [H1]; · iexists f; iapply (entails_of_eq (outSlotP_eq c 1 f).symm); iexact H1
  isplitl [H2]; · iexists f; iapply (entails_of_eq (outSlotP_eq c 2 f).symm); iexact H2
  iexists f; iapply (entails_of_eq (outSlotP_eq c 3 f).symm); iexact H3
theorem ringI_join (c : Dev nD) :
    (iprop((∃ f, inSlotP c 0 f) ∗ (∃ f, inSlotP c 1 f) ∗ (∃ f, inSlotP c 2 f) ∗ ∃ f, inSlotP c 3 f) : sProp 𝕄)
      ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch0) inSlotSet inSlotSet_disjoint inSlotSet_cover f0)
  irw [bigSep_fin4]
  isplitl [H0]; · iexists f0; iapply (entails_of_eq (inSlotP_eq c 0 f0)); iexact H0
  isplitl [H1]; · iexists f1; iapply (entails_of_eq (inSlotP_eq c 1 f1)); iexact H1
  isplitl [H2]; · iexists f2; iapply (entails_of_eq (inSlotP_eq c 2 f2)); iexact H2
  iexists f3; iapply (entails_of_eq (inSlotP_eq c 3 f3)); iexact H3
theorem ringO_join (c : Dev nD) :
    (iprop((∃ f, outSlotP c 0 f) ∗ (∃ f, outSlotP c 1 f) ∗ (∃ f, outSlotP c 2 f) ∗ ∃ f, outSlotP c 3 f) : sProp 𝕄)
      ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch1) outSlotSet outSlotSet_disjoint outSlotSet_cover f0)
  irw [bigSep_fin4]
  isplitl [H0]; · iexists f0; iapply (entails_of_eq (outSlotP_eq c 0 f0)); iexact H0
  isplitl [H1]; · iexists f1; iapply (entails_of_eq (outSlotP_eq c 1 f1)); iexact H1
  isplitl [H2]; · iexists f2; iapply (entails_of_eq (outSlotP_eq c 2 f2)); iexact H2
  iexists f3; iapply (entails_of_eq (outSlotP_eq c 3 f3)); iexact H3

/-! ## The proof data of the one region -/

/-- What the region holds before its point: everything home, the result's array as at launch; after it: the result. -/
def Φin (c : Dev nD) : sProp 𝕄 :=
  iprop(slots (F := F) c ∗ bigSep Finset.univ (inQuad c (cpAt m c)) ∗ bigSep Finset.univ (outQuad c (resAt m c)))
def Φout (c : Dev nD) : sProp 𝕄 :=
  iprop(slots (F := F) c ∗ bigSep Finset.univ (inQuad c (cpAt m c)) ∗ bigSep Finset.univ (outQuad c (result c (cpAt m c))))

def dats (_ : Fin 1) (c : Dev nD) : Dat τ (Elt F) Unit ℕ (UU nD τ) ℕ cfg0 c where
  A w := w.elim0
  after w t := w.elim0
  Φ j := if j.val = 0 then Φin m c else Φout m c
  q _ := fullShare
  owed _ := 0

theorem dats_Φ (c : Dev nD) (j) : (dats (F := F) m 0 c).Φ j = if j.val = 0 then Φin m c else Φout m c := rfl
theorem dats_Φ_in (c : Dev nD) (t : Fin cfg0.N) : (dats (F := F) m 0 c).Φ t.castSucc = Φin m c :=
  (dats_Φ m c _).trans <| if_pos (by have := t.isLt; have h : cfg0.N = 1 := N_0; show t.val = 0; omega)
theorem dats_Φ_out (c : Dev nD) (t : Fin cfg0.N) : (dats (F := F) m 0 c).Φ t.succ = Φout m c :=
  (dats_Φ m c _).trans <| if_neg (by show ¬ (t.val + 1 = 0); omega)

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

set_option backward.isDefEq.respectTransparency.types false in
theorem body_obligation (c : Dev nD) : BodyObligation (dats (F := F) m 0 c) (defs₀ (F := F)) 𝒱₀ () Set.univ := fun t => by
  rw [dats_Φ_in, dats_Φ_out]
  unfold Dat.owesAt Pipeline.owesWithin
  rw [show (dats (F := F) m 0 c).owed t.castSucc = 0 from rfl, show (dats (F := F) m 0 c).owed t.succ = 0 from rfl]
  unfold Φin Φout
  iintro ⟨⟨HS, HB, HR⟩, ⟨%W, -, HW⟩, HWin⟩
  sl_rw [prog_eq t]
  iapply (bodyRun c (cpAt m c) (resAt m c))
  isplitl [HS HB HR HW]
  · isplitl [HW]; · iexists W; iexact HW
    isplitl [HS]; · iexact HS
    isplitl [HB]; · iexact HB
    iexact HR
  · iintro ⟨⟨%W', HW⟩, HS, HB, HR⟩
    isplitl [HS HB HR]
    · isplitl [HS]; · iexact HS
      isplitl [HB]; · iexact HB
      iexact HR
    isplitl [HW]
    · iexists W'; isplitr; · ipureintro; exact fun _ _ => Or.inl trivial
      iexact HW
    iexact HWin

/-! ## The run -/

abbrev a1 (c : Dev nD) : sProp 𝕄 := ((c : Thread nD τ).loc main_arg1) ↦{fullShare} m ((c : Thread nD τ).loc main_arg1)
abbrev a2 (c : Dev nD) : sProp 𝕄 := ((c : Thread nD τ).loc main_arg2) ↦{fullShare} m ((c : Thread nD τ).loc main_arg2)
abbrev a3 (c : Dev nD) : sProp 𝕄 := ((c : Thread nD τ).loc main_arg3) ↦{fullShare} m ((c : Thread nD τ).loc main_arg3)
def intoΦ (c : Dev nD) : sProp 𝕄 :=
  iprop((bigSep Finset.univ (inQuad c (cpAt m c)) ∗ bigSep Finset.univ (outQuad c (resAt m c))) ∗ Pipeline.ownSems0 osem c)
def outOfΦ (c : Dev nD) : sProp 𝕄 :=
  iprop((((c : Thread nD τ).loc main_arg0) ↦{fullShare} cpAt m c) ∗ (((c : Thread nD τ).loc main_v0) ↦{fullShare} result c (cpAt m c)))
def keep (c : Dev nD) : sProp 𝕄 := iprop(a1 m c ∗ a2 m c ∗ a3 m c)
def u₀ : UU nD τ := (initOf (Pipeline.cells cfgs Cert.KernelIdeal.Gen.cellOf_inj) (Pipeline.launchToks cfgs Cert.KernelIdeal.Gen.cellOf_inj), 1)

/-- What a final state holds on core `c`: the arguments as at launch, the result. -/
def QY (c : Dev nD) (s : MemSt nD τ sig (Elt F)) : Prop :=
  s.mem ((c : Thread nD τ).loc main_v0) = result c (cpAt m c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

set_option backward.isDefEq.respectTransparency.types false in
/-- For any float values, from any memory with zero counters: every weakly fair execution terminates, and every final
    state holds the result, the arguments unchanged, every semaphore counter at zero. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats (F := F) m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := keep m)
    (hX := fun c => by
      rw [unscopedRest0_eq]
      unfold intoΦ keep
      iintro ⟨⟨H0, H1, H2, H3, HV⟩, HS, -, -⟩; imodintro
      isplitl [H0 HV HS]
      · isplitl [H0 HV]
        · isplitl [H0]; · iapply (entails_of_eq (cp_eq c _)); iexact H0
          iapply (entails_of_eq (res_eq c _)); iexact HV
        iexact HS
      isplitl [H1]; · iexact H1
      isplitl [H2]; · iexact H2
      iexact H3)
    (hin := fun c => by
      rw [scopedRest0_eq, show (dats (F := F) m 0 c).Φ 0 = Φin m c from (dats_Φ m c _).trans (if_pos rfl)]
      unfold intoΦ Φin slots; rw [ownSems0_eq]
      iintro ⟨⟨⟨HB, HR⟩, Hi0, Hi1, Hi2, Hi3, Ho⟩, HbI, HbO⟩
      ihave HsI := (ringI_split c) $$ HbI
      ihave HsO := (ringO_split c) $$ HbO
      isplitr [HB HR]
      · isplitl [HsI]; · iexact HsI
        isplitl [HsO]; · iexact HsO
        isplitr [Ho]
        · isplitl [Hi0]; · iexact Hi0
          isplitl [Hi1]; · iexact Hi1
          isplitl [Hi2]; · iexact Hi2
          iexact Hi3
        iexact Ho
      isplitl [HB]; · iexact HB
      iexact HR)
    (hout := fun c => by
      rw [scopedRest0_eq, show (dats (F := F) m 0 c).Φ (Fin.last cfg0.N) = Φout m c from (dats_Φ m c _).trans (if_neg (by rw [Fin.val_last]; have h : cfg0.N = 1 := N_0; omega)), ownSems0_eq]
      unfold Φout outOfΦ slots
      iintro ⟨⟨HsI, HsO, ⟨Hi0, Hi1, Hi2, Hi3⟩, Ho⟩, HB, HR⟩
      isplitl [HB HR]
      · isplitl [HB]; · iapply (entails_of_eq (cp_eq c _).symm); iexact HB
        iapply (entails_of_eq (res_eq c _).symm); iexact HR
      isplitl [Hi0 Hi1 Hi2 Hi3 Ho]
      · isplitl [Hi0]; · iexact Hi0
        isplitl [Hi1]; · iexact Hi1
        isplitl [Hi2]; · iexact Hi2
        isplitl [Hi3]; · iexact Hi3
        iexact Ho
      isplitl [HsI]; · iapply (ringI_join c); iexact HsI
      iapply (ringO_join c); iexact HsO)
    (QY := QY m)
    (hY := fun c s' => by
      unfold outOfΦ keep
      iintro ⟨⟨H0, HV⟩, ⟨H1, H2, H3⟩, HSI⟩
      icombine HSI H0 gives %h0
      icombine HSI HV gives %hV
      icombine HSI H1 gives %h1
      icombine HSI H2 gives %h2
      icombine HSI H3 gives %h3
      imodintro
      isplitr
      · ipureintro
        exact ⟨Buf.eq_of_forall_mem_univ hV, Buf.eq_of_forall_mem_univ h0, Buf.eq_of_forall_mem_univ h1, Buf.eq_of_forall_mem_univ h2, Buf.eq_of_forall_mem_univ h3⟩
      iexact HSI)
    (hQ := fun _ hh hz => ⟨fun c => (hh c).2, hz⟩)

end Cert.Proof.KernelIdeal

end
-- ==== Proof.Value.Consts.lean ====
/-
  The float constants of the two programs, as the extended reals that their patterns denote. One module unfolds the
  reading of a pattern; the others read their constants here.
-/
module

public import Idealize.ShloMosaic.PureOps.Ideal

@[expose] public section

noncomputable section

namespace Cert.Proof.Value

open Idealize.ShloMosaic

/-- `384.0` denotes 384. -/
theorem ofBits_384 : Ideal.ofBits .f32 0x43C00000#32 = ((384 : ℝ) : EReal) := by
  simp [Ideal.ofBits, Ideal.ieee, -EReal.coe_mul]; norm_num

/-- `0.5` denotes one half. -/
theorem ofBits_half : Ideal.ofBits .f32 0x3F000000#32 = (((1 : ℝ) / 2 : ℝ) : EReal) := by
  simp [Ideal.ofBits, Ideal.ieee, -EReal.coe_mul]; norm_num

/-- The small number that both programs add to the variance: the f32 nearest to one thousandth. -/
def eps : ℝ := 8589935 / 2 ^ 33

/-- It is positive. -/
theorem eps_pos : 0 < eps := by unfold eps; positivity

/-- Its pattern denotes it. -/
theorem ofBits_eps : Ideal.ofBits .f32 0x3A83126F#32 = ((eps : ℝ) : EReal) := by
  simp [Ideal.ofBits, Ideal.ieee, -EReal.coe_mul, eps]; norm_num

/-- The pattern with exponent field `126 - k` and no fraction denotes 2 to the power `-1 - k`. -/
theorem ofBits_low (k : Fin 24) :
    Ideal.ofBits .f32 ((126#32 - BitVec.ofNat 32 k.val) <<< 23) = (((1 : ℝ) / 2 ^ (k.val + 1) : ℝ) : EReal) := by
  fin_cases k <;> simp [Ideal.ofBits, Ideal.ieee, -EReal.coe_mul] <;> norm_num

/-- The pattern with exponent field `134 - k` and no fraction denotes 2 to the power `7 - k`. -/
theorem ofBits_high (k : Fin 24) :
    Ideal.ofBits .f32 ((134#32 - BitVec.ofNat 32 k.val) <<< 23) = (((256 : ℝ) / 2 ^ (k.val + 1) : ℝ) : EReal) := by
  fin_cases k <;> simp [Ideal.ofBits, Ideal.ieee, -EReal.coe_mul] <;> norm_num

end Cert.Proof.Value

end
-- ==== Proof.Value.Math.lean ====
/-
  The mathematics that the two programs agree on, over the reals and free of any program: the bits of a row of sixteen
  words, their mean and variance, and how a bit is read off a fraction.
-/
module

public import proofs.«01_k».proof.Proof.Value.Consts
public import Idealize.ShloMosaic.Lib.Pointwise.Sums
public import Idealize.ShloMosaic.PureOps.Float

@[expose] public section

noncomputable section

namespace Cert.Proof.Value

open Idealize.ShloMosaic

/-- Bit `k` of a word, as the real number zero or one. -/
def bit (v : BitVec 32) (k : ℕ) : ℝ := if v.getLsbD k then 1 else 0

/-- The 384 bits of a row: 24 of each of its sixteen words. -/
def rowBit (w : Fin 16 → BitVec 32) (f : Fin 384) : ℝ := bit (w ⟨f.val / 24, by omega⟩) (f.val % 24)

/-- The mean of a row's bits. -/
def mean (w : Fin 16 → BitVec 32) : ℝ := (∑ f, rowBit w f) / 384

/-- What a row is normalised by: the square root of its variance and the small number. -/
def dev (w : Fin 16 → BitVec 32) : ℝ := Real.sqrt (mean w - mean w * mean w + eps)

/-- A row's bits, normalised. -/
def normed (w : Fin 16 → BitVec 32) (f : Fin 384) : ℝ := (rowBit w f - mean w) / dev w

/-- A sum of reals is the same sum of extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A bit is its own square. -/
theorem rowBit_sq (w : Fin 16 → BitVec 32) (f : Fin 384) : rowBit w f * rowBit w f = rowBit w f := by
  unfold rowBit bit; split <;> norm_num

theorem rowBit_nonneg (w : Fin 16 → BitVec 32) (f : Fin 384) : 0 ≤ rowBit w f := by
  unfold rowBit bit; split <;> norm_num

theorem rowBit_le_one (w : Fin 16 → BitVec 32) (f : Fin 384) : rowBit w f ≤ 1 := by
  unfold rowBit bit; split <;> norm_num

theorem mean_nonneg (w : Fin 16 → BitVec 32) : 0 ≤ mean w :=
  div_nonneg (Finset.sum_nonneg fun f _ => rowBit_nonneg w f) (by norm_num)

theorem mean_le_one (w : Fin 16 → BitVec 32) : mean w ≤ 1 := by
  unfold mean
  rw [div_le_one (by norm_num)]
  calc ∑ f, rowBit w f ≤ ∑ _f : Fin 384, (1 : ℝ) := Finset.sum_le_sum fun f _ => rowBit_le_one w f
    _ = 384 := by simp

/-- Under the square root stands a positive number. -/
theorem var_pos (w : Fin 16 → BitVec 32) : 0 < mean w - mean w * mean w + eps := by
  nlinarith [mean_nonneg w, mean_le_one w, eps_pos]

theorem dev_pos (w : Fin 16 → BitVec 32) : 0 < dev w := Real.sqrt_pos.mpr (var_pos w)

/-- The variance of bits is their mean less its square. -/
theorem variance_eq (w : Fin 16 → BitVec 32) :
    (∑ f, (rowBit w f - mean w) * (rowBit w f - mean w)) / 384 = mean w - mean w * mean w := by
  have hs : ∑ f, rowBit w f = 384 * mean w := by unfold mean; ring
  have : ∀ f, (rowBit w f - mean w) * (rowBit w f - mean w)
      = rowBit w f * (1 - 2 * mean w) + mean w * mean w := fun f => by
    linear_combination rowBit_sq w f
  simp only [this, Finset.sum_add_distrib, ← Finset.sum_mul, hs]
  simp
  ring

/-- The number of bits set in a word below 65536 is the sum of its lowest 24 bits. -/
theorem ctpop_eq (v : BitVec 32) (hv : v.toNat < 65536) :
    ((IntOp.ctpop v).toInt : ℝ) = ∑ k : Fin 24, bit v k.val := by
  have hlen : ((List.range 32).filter fun i => v.getLsbD i).length ≤ 32 :=
    (List.length_filter_le _ _).trans (by simp)
  have hcount : ((List.range 32).filter fun i => v.getLsbD i).length
      = ∑ i ∈ Finset.range 32, if v.getLsbD i then 1 else 0 := by
    rw [Finset.sum_boole, Nat.cast_id]; simp [Finset.card, Finset.filter, Finset.range, Multiset.range]
  have hi : (IntOp.ctpop v).toInt = (((List.range 32).filter fun i => v.getLsbD i).length : ℤ) := by
    unfold IntOp.ctpop
    generalize ((List.range 32).filter fun i => v.getLsbD i).length = n at hlen
    rw [BitVec.toInt_eq_toNat_of_lt (by rw [BitVec.toNat_ofNat]; omega), BitVec.toNat_ofNat]
    omega
  have hz : ∀ i ∈ Finset.range 32, i ∉ Finset.range 24 → (if v.getLsbD i then (1 : ℝ) else 0) = 0 := fun i _ h => by
    have h24 : 24 ≤ i := by simpa using h
    have : v.getLsbD i = false := by
      rw [BitVec.getLsbD]
      exact Nat.testBit_lt_two_pow (lt_of_lt_of_le hv ((by norm_num : 65536 ≤ 2 ^ 24).trans (Nat.pow_le_pow_right (by norm_num) h24)))
    simp [this]
  rw [hi, hcount, Finset.sum_range]
  push_cast
  rw [← Finset.sum_range (fun i => if v.getLsbD i then (1 : ℝ) else 0),
    ← Finset.sum_subset (Finset.range_subset_range.mpr (by norm_num : 24 ≤ 32)) hz, Finset.sum_range]
  rfl

/-- The bits of a row, counted word by word. -/
theorem sum_rowBit (w : Fin 16 → BitVec 32) : ∑ f, rowBit w f = ∑ j, ∑ k : Fin 24, bit (w j) k.val := by
  rw [Fin.sum_univ_tiles 16 24 (by norm_num)]
  refine Finset.sum_congr rfl fun j _ => Finset.sum_congr rfl fun k _ => ?_
  unfold rowBit
  have h1 : (j.val * 24 + k.val) / 24 = j.val := by omega
  have h2 : (j.val * 24 + k.val) % 24 = k.val := by omega
  simp only [h1, h2]

/-- A natural number over `2^(k+1)` has a fraction of one half or more just when its bit `k` is set. -/
theorem half_le_frac (n k : ℕ) :
    ((1 : ℝ) / 2 ≤ (n : ℝ) / 2 ^ (k + 1) - (⌊(n : ℝ) / 2 ^ (k + 1)⌋ : ℝ)) ↔ n.testBit k = true := by
  have hp : (0 : ℝ) < 2 ^ (k + 1) := by positivity
  have hmod : (n : ℝ) = 2 ^ (k + 1) * ((n / 2 ^ (k + 1) : ℕ) : ℝ) + ((n % 2 ^ (k + 1) : ℕ) : ℝ) := by
    exact_mod_cast (Nat.div_add_mod n (2 ^ (k + 1))).symm
  have hr0 : (0 : ℝ) ≤ ((n % 2 ^ (k + 1) : ℕ) : ℝ) := Nat.cast_nonneg _
  have hr1 : ((n % 2 ^ (k + 1) : ℕ) : ℝ) < 2 ^ (k + 1) := by
    exact_mod_cast Nat.mod_lt n (Nat.two_pow_pos (k + 1))
  have hfl : ⌊(n : ℝ) / 2 ^ (k + 1)⌋ = ((n / 2 ^ (k + 1) : ℕ) : ℤ) := by
    rw [Int.floor_eq_iff, Int.cast_natCast, le_div_iff₀ hp, div_lt_iff₀ hp]
    constructor <;> nlinarith
  rw [hfl]
  have hfrac : (n : ℝ) / 2 ^ (k + 1) - (((n / 2 ^ (k + 1) : ℕ) : ℤ) : ℝ) = ((n % 2 ^ (k + 1) : ℕ) : ℝ) / 2 ^ (k + 1) := by
    rw [Int.cast_natCast, eq_div_iff hp.ne', sub_mul, div_mul_cancel₀ _ hp.ne']
    linarith
  rw [hfrac, le_div_iff₀ hp]
  have hpow : (1 : ℝ) / 2 * 2 ^ (k + 1) = ((2 ^ k : ℕ) : ℝ) := by push_cast; rw [pow_succ]; ring
  rw [hpow, Nat.cast_le]
  rw [Nat.testBit_eq_decide_div_mod_eq]
  have e : n % 2 ^ (k + 1) = n % 2 ^ k + 2 ^ k * (n / 2 ^ k % 2) := by rw [pow_succ, Nat.mod_mul]
  have hlt : n % 2 ^ k < 2 ^ k := Nat.mod_lt _ (by positivity)
  rcases Nat.mod_two_eq_zero_or_one (n / 2 ^ k) with h | h <;> simp [e, h, hlt]

end Cert.Proof.Value

end
-- ==== Proof.Value.Table.lean ====
/-
  The kernel's table of powers of two, read at a row and a column, and the two bytes of a codepoint, read at a character:
  the two factors of its product.
-/
module

public import proofs.«01_k».proof.Proof.KernelIdeal.Trip
public import proofs.«01_k».proof.Proof.Value.Math
public import Idealize.ShloMosaic.Lib.Pointwise

@[expose] public section

noncomputable section

namespace Cert.Proof.Value

open Cert.KernelIdeal Cert.KernelIdeal.Gen
open Idealize.ShloMosaic

/-- The kernel's column remainder is the column modulo 24: its corrections for signs do nothing. -/
theorem col_rem (w : Fin 32) (f : Fin 384) : k0_pay8 (ix2 w f) = BitVec.ofNat 32 (f.val % 24) := by
  pointwise [k0_pay8]
  revert f
  decide +kernel

/-- The kernel's floor division of a column by 24 is the quotient: its corrections for signs do nothing. -/
theorem col_div (f : Fin 384) :
    Scalar.select
        (IntOp.andi
          (IntOp.cmpi CmpIPredicate.ne
            (IntOp.subi (BitVec.setWidth 32 (IntOp.cmpi CmpIPredicate.sgt (BitVec.ofNat 32 f.val) 0#32))
              (BitVec.setWidth 32 (IntOp.cmpi CmpIPredicate.slt (BitVec.ofNat 32 f.val) 0#32)))
            (Scalar.subi (Scalar.extui (Scalar.cmpi CmpIPredicate.sgt 24#32 0#32))
              (Scalar.extui (Scalar.cmpi CmpIPredicate.slt 24#32 0#32))))
          (IntOp.cmpi CmpIPredicate.ne (IntOp.remsi ArithUnit.vector (BitVec.ofNat 32 f.val) 24#32) 0#32))
        (IntOp.subi (IntOp.divsi ArithUnit.vector (BitVec.ofNat 32 f.val) 24#32) 1#32)
        (IntOp.divsi ArithUnit.vector (BitVec.ofNat 32 f.val) 24#32)
      = BitVec.ofNat 32 (⟨f.val / 24, by omega⟩ : Fin 16).val := by
  revert f
  decide +kernel

/-- The comparison that places the lower powers holds at row `j` of the first sixteen just when the column is of character `j`. -/
theorem eq_row : ∀ (q : Fin 16) (w : Fin 32),
    IntOp.cmpi CmpIPredicate.eq (BitVec.ofNat 32 q.val) (BitVec.ofNat 32 w.val) = BitVec.ofBool (q.val = w.val) := by
  decide +kernel

/-- The comparison that places the upper powers: the same, sixteen rows on. -/
theorem eq_row_sub : ∀ (q : Fin 16) (w : Fin 32),
    IntOp.cmpi CmpIPredicate.eq (BitVec.ofNat 32 q.val) (IntOp.subi (BitVec.ofNat 32 w.val) 16#32)
      = BitVec.ofBool (q.val + 16 = w.val) := by
  decide +kernel

/-- Where the table takes a lower power: row `w` is the column's character. -/
theorem low_mask (w : Fin 32) (f : Fin 384) :
    k0_pay12 (iota .tc S32x384 32 [0] iota_S32x384_d0_w32) (iota .tc S32x384 32 [1] iota_S32x384_d1_w32) k0_pay9 k0_pay10 k0_pay11 (ix2 w f)
      = BitVec.ofBool (f.val / 24 = w.val) := by
  pointwise [k0_pay12, k0_pay9, k0_pay10, k0_pay11]
  rw [col_div, eq_row]

/-- Where the table takes an upper power: row `w` is the column's character and sixteen. -/
theorem high_mask (w : Fin 32) (f : Fin 384) :
    k0_pay13 (iota .tc S32x384 32 [0] iota_S32x384_d0_w32) (iota .tc S32x384 32 [1] iota_S32x384_d1_w32) (ix2 w f)
      = BitVec.ofBool (f.val / 24 + 16 = w.val) := by
  pointwise [k0_pay13]
  rw [col_div, eq_row_sub]

/-- A shift of a word by 23 is the shift of the bit vector. -/
theorem shl23 (a : BitVec 32) : IntOp.shli ArithUnit.vector a 23#32 = a <<< 23 := rfl

/-- The lower powers: a half, a quarter and so on down a character's columns. -/
theorem low_word (w : Fin 32) (f : Fin 384) :
    k0_pay14 (F := Ideal) k0_pay8 (ix2 w f) = (((1 : ℝ) / 2 ^ (f.val % 24 + 1) : ℝ) : EReal) := by
  pointwise [k0_pay14]
  rw [col_rem, shl23]
  exact ofBits_low ⟨f.val % 24, by omega⟩

/-- The upper powers: 256 times the lower. -/
theorem high_word (w : Fin 32) (f : Fin 384) :
    k0_pay15 (F := Ideal) k0_pay8 (ix2 w f) = (((256 : ℝ) / 2 ^ (f.val % 24 + 1) : ℝ) : EReal) := by
  pointwise [k0_pay15]
  rw [col_rem, shl23]
  exact ofBits_high ⟨f.val % 24, by omega⟩

/-- The table's entry at row `w` and column `f`, as a real number. -/
def tab (w : Fin 32) (f : Fin 384) : ℝ :=
  if f.val / 24 = w.val then 1 / 2 ^ (f.val % 24 + 1)
  else if f.val / 24 + 16 = w.val then 256 / 2 ^ (f.val % 24 + 1) else 0

/-- The entry that the kernel's two selections leave is that number. -/
theorem tab_eq (w : Fin 32) (f : Fin 384) :
    Scalar.select (BitVec.ofBool (f.val / 24 = w.val)) (((1 : ℝ) / 2 ^ (f.val % 24 + 1) : ℝ) : EReal)
        (Scalar.select (BitVec.ofBool (f.val / 24 + 16 = w.val)) (((256 : ℝ) / 2 ^ (f.val % 24 + 1) : ℝ) : EReal) 0)
      = ((tab w f : ℝ) : EReal) := by
  unfold tab Scalar.select
  split_ifs <;> simp_all

/-- The two bytes of sixteen words, as real numbers: byte `w` of the first sixteen is the lower byte of word `w`, of the
    last the rest of it. -/
def byte (v : Fin 16 → BitVec 32) (w : Fin 32) : ℝ :=
  if h : w.val < 16 then ((IntOp.andi (v ⟨w.val, h⟩) 255#32).toInt : ℝ)
  else ((IntOp.shrsi .vector (v ⟨w.val - 16, by omega⟩) 8#32).toInt : ℝ)

/-- The kernel's left factor holds them. -/
theorem bytes (x : IVec S32x128x16 32) (r : Fin 32) (t : Fin 128) (w : Fin 32) :
    k0_pay7 (F := Ideal) x (ix3 r t w) = ((byte (fun j => x (ix3 r t j)) w : ℝ) : EReal) := by
  pointwise [k0_pay7]
  unfold byte
  split <;> rfl

/-- The lower byte of a word below 65536. -/
theorem low_byte (v : BitVec 32) (hv : v.toNat < 65536) : (IntOp.andi v 255#32).toInt = ((v.toNat % 256 : ℕ) : ℤ) := by
  have h : (v &&& 255#32).toNat = v.toNat % 256 := by
    rw [BitVec.toNat_and]
    exact Nat.and_two_pow_sub_one_eq_mod v.toNat 8
  show (v &&& 255#32).toInt = _
  rw [BitVec.toInt_eq_toNat_of_lt (by omega), h]

/-- The upper byte of a word below 65536. -/
theorem high_byte (v : BitVec 32) (hv : v.toNat < 65536) :
    (IntOp.shrsi .vector v 8#32).toInt = ((v.toNat / 256 : ℕ) : ℤ) := by
  show (v.sshiftRight 8).toInt = _
  rw [BitVec.toInt_sshiftRight, BitVec.toInt_eq_toNat_of_lt (by omega), Int.shiftRight_eq_div_pow]
  norm_cast

/-- The product of a row's bytes and a column of the table: the column's codepoint, shifted down so that the column's bit
    stands first after the point. -/
theorem sum_byte_tab (v : Fin 16 → BitVec 32) (f : Fin 384) (hv : ∀ j, (v j).toNat < 65536) :
    ∑ w, byte v w * tab w f = (((v ⟨f.val / 24, by omega⟩).toNat : ℕ) : ℝ) / 2 ^ (f.val % 24 + 1) := by
  have hlow : ∀ j : Fin 16, byte v ⟨j.val, by omega⟩ * tab ⟨j.val, by omega⟩ f
      = if j = (⟨f.val / 24, by omega⟩ : Fin 16) then (((v j).toNat % 256 : ℕ) : ℝ) / 2 ^ (f.val % 24 + 1) else 0 := fun j => by
    unfold byte tab
    rw [dif_pos j.isLt, low_byte _ (hv _)]
    by_cases h : f.val / 24 = j.val
    · rw [if_pos h, if_pos (Fin.ext h.symm), Int.cast_natCast, mul_one_div]
    · rw [if_neg h, if_neg (by dsimp only; omega), if_neg (fun e => h (congrArg Fin.val e).symm), mul_zero]
  have hhigh : ∀ j : Fin 16, byte v ⟨16 + j.val, by omega⟩ * tab ⟨16 + j.val, by omega⟩ f
      = if j = (⟨f.val / 24, by omega⟩ : Fin 16) then (256 * ((v j).toNat / 256 : ℕ) : ℝ) / 2 ^ (f.val % 24 + 1) else 0 := fun j => by
    unfold byte tab
    rw [dif_neg (by simp), high_byte _ (hv _)]
    by_cases h : f.val / 24 = j.val
    · rw [if_neg (by dsimp only; omega), if_pos (by dsimp only; omega), if_pos (Fin.ext h.symm)]
      simp only [Nat.add_sub_cancel_left]
      rw [Int.cast_natCast, mul_div_assoc', mul_comm]
    · rw [if_neg (by dsimp only; omega), if_neg (by dsimp only; omega), if_neg (fun e => h (congrArg Fin.val e).symm), mul_zero]
  rw [Fin.sum_univ_two_halves 16 16 (by norm_num)]
  simp only [hlow, hhigh, Finset.sum_ite_eq', Finset.mem_univ, if_true]
  rw [← add_div]
  congr 1
  exact_mod_cast Nat.mod_add_div _ 256

end Cert.Proof.Value

end
-- ==== Proof.Value.Kernel.lean ====
/-
  What the kernel makes of 32 rows of codepoints, over the extended reals: each row's bits, normalised.
-/
module

public import proofs.«01_k».proof.Proof.Value.Table

@[expose] public section

noncomputable section

namespace Cert.Proof.Value

open Cert.KernelIdeal Cert.KernelIdeal.Gen
open Idealize.ShloMosaic Idealize.ShloMosaic.Rounds

variable (x : Vec Ideal S1x32x128x16 .i32) (r : Fin 32) (t : Fin 128)

/-- The sixteen codepoints of one row of a block. -/
def chars : Fin 16 → BitVec 32 := fun j => x (ix4 0 r t j)

/-- The kernel's mean of a row is the mean of its bits. -/
theorem kernel_mean (hx : ∀ j, (chars x r t j).toNat < 65536) :
    k0_pay2 (F := Ideal) x (ix3 r t 0) = ((mean (chars x r t) : ℝ) : EReal) := by
  pointwise [k0_pay2, k0_pay1]
  have hn : Named.named (F := Ideal) (φ := .f32) κ "inv_f" 992651947#32 = ((1 / 384 : ℝ) : EReal) :=
    IdealRules.named_const.ideal_named_scalar _ _ _ _ rfl
  have hs : ∀ j : Fin 16, FloatOps.sitofp (F := Ideal) .f32 (IntOp.ctpop (x (ix4 0 r t j)))
      = ((∑ k : Fin 24, bit (chars x r t j) k.val : ℝ) : EReal) := fun j =>
    congrArg (fun a : ℝ => (a : EReal)) (ctpop_eq _ (hx j))
  rw [hn, Finset.sum_congr rfl fun j _ => hs j, coe_sum, ← sum_rowBit, ← EReal.coe_mul, mul_one_div]
  rfl

/-- The kernel's reciprocal of a row's deviation. -/
theorem kernel_rdev (hx : ∀ j, (chars x r t j).toNat < 65536) :
    k0_pay3 (F := Ideal) x (ix3 r t 0) = (((dev (chars x r t))⁻¹ : ℝ) : EReal) := by
  pointwise [k0_pay3]
  rw [kernel_mean x r t hx, ofBits_eps, ← EReal.coe_mul, ← EReal.coe_sub, ← EReal.coe_add, Ideal.rsqrt_coe,
    if_neg (not_lt.mpr (var_pos _).le), if_neg (var_pos _).ne']
  rfl

/-- The last step of the kernel: the upper of two values where the product has a fraction of a half or more, and the lower
    elsewhere. -/
theorem pick (hi lo : FVec Ideal S32x128x1 .f32) (b : FVec Ideal S32x128x32 .bf16) (M N : IVec S32x384 1)
    (P Q : FVec Ideal S32x384 .f32) (z : Ideal .f32) (f : Fin 384) :
    k0_pay16 hi lo b M N P Q z (ix4 0 r t f)
      = if Ideal.ofBits .f32 0x3F000000#32
            ≤ (∑ w, b (ix3 r t w) * Scalar.select (M (ix2 w f)) (P (ix2 w f)) (Scalar.select (N (ix2 w f)) (Q (ix2 w f)) z))
              - Ideal.liftRound Int.floor
                  (∑ w, b (ix3 r t w) * Scalar.select (M (ix2 w f)) (P (ix2 w f)) (Scalar.select (N (ix2 w f)) (Q (ix2 w f)) z))
        then hi (ix3 r t 0) else lo (ix3 r t 0) := by
  pointwise [k0_pay16]

/-- THE KERNEL'S VALUE at a row and a column of a block: the row's bits, normalised. -/
theorem chunk_apply (hx : ∀ j, (chars x r t j).toNat < 65536) (f : Fin 384) :
    KernelIdeal.chunk (F := Ideal) x (ix4 0 r t f) = ((normed (chars x r t) f : ℝ) : EReal) := by
  have hb : ∀ w, k0_pay7 (F := Ideal) (k0_pay1 x) (ix3 r t w) = ((byte (chars x r t) w : ℝ) : EReal) := fun w => by
    rw [bytes]
    congr 2
    funext j
    pointwise [k0_pay1]
    rfl
  have hz : Scalar.ofBits (F := Ideal) .f32 0x00000000#32 = (0 : EReal) := Ideal.ofBits_zero_f32
  have hhi : k0_pay5 (F := Ideal) (k0_pay3 x) (k0_pay4 x) (ix3 r t 0) = (((1 - mean (chars x r t)) / dev (chars x r t) : ℝ) : EReal) := by
    pointwise [k0_pay5, k0_pay4]
    rw [kernel_mean x r t hx, kernel_rdev x r t hx, ← EReal.coe_one, ← EReal.coe_sub, ← EReal.coe_mul, div_eq_mul_inv]
  have hlo : k0_pay6 (F := Ideal) (k0_pay2 x) (k0_pay3 x) (ix3 r t 0) = (((0 - mean (chars x r t)) / dev (chars x r t) : ℝ) : EReal) := by
    pointwise [k0_pay6]
    rw [kernel_mean x r t hx, kernel_rdev x r t hx, ← EReal.coe_zero, ← EReal.coe_sub, ← EReal.coe_mul, div_eq_mul_inv]
  have term : ∀ w, k0_pay7 (F := Ideal) (k0_pay1 x) (ix3 r t w)
        * Scalar.select
            (k0_pay12 (iota .tc S32x384 32 [0] iota_S32x384_d0_w32) (iota .tc S32x384 32 [1] iota_S32x384_d1_w32) k0_pay9 k0_pay10 k0_pay11 (ix2 w f))
            (k0_pay14 (F := Ideal) k0_pay8 (ix2 w f))
            (Scalar.select (k0_pay13 (iota .tc S32x384 32 [0] iota_S32x384_d0_w32) (iota .tc S32x384 32 [1] iota_S32x384_d1_w32) (ix2 w f))
              (k0_pay15 (F := Ideal) k0_pay8 (ix2 w f)) 0)
      = ((byte (chars x r t) w * tab w f : ℝ) : EReal) := fun w => by
    rw [hb, low_mask, high_mask, low_word, high_word, tab_eq, ← EReal.coe_mul]
  unfold KernelIdeal.chunk
  rw [pick, hhi, hlo, hz]
  have hsum := (Finset.sum_congr rfl fun (w : Fin 32) _ => term w).trans
    ((coe_sum Finset.univ fun w => byte (chars x r t) w * tab w f).trans
      (congrArg (fun a : ℝ => (a : EReal)) (sum_byte_tab (chars x r t) f hx)))
  rw [hsum, ofBits_half, Ideal.liftRound_coe, ← EReal.coe_sub]
  simp only [EReal.coe_le_coe_iff, half_le_frac]
  unfold normed rowBit bit BitVec.getLsbD
  split_ifs <;> rfl

/-- The rows of the whole array of codepoints. -/
def row (a : IVec S1024x128x16 32) (b : Fin 1024) (t : Fin 128) : Fin 16 → BitVec 32 := fun j => a (ix3 b t j)

/-- THE KERNEL'S RESULT at a row and a column: the row's bits, normalised. -/
theorem result_apply (c : Dev nD) (a : IVec S1024x128x16 32) (ha : ∀ i, (a i).toNat < 65536)
    (b : Fin 1024) (t : Fin 128) (f : Fin 384) :
    KernelIdeal.result (F := Ideal) c a (ix3 b t f) = ((normed (row a b t) f : ℝ) : EReal) := by
  have hin : ∀ j, KernelIdeal.inPay (F := Ideal) c a (Ring.bk 8 (b.val / 128)) (Ring.bk 4 (b.val / 32))
      (ix3 ⟨b.val % 32, Nat.mod_lt _ (by decide)⟩ t j) = a (ix3 b t j) := fun j => by
    show a _ = a _
    congr 1
    funext i
    match i with
    | ⟨0, _⟩ =>
      apply Fin.ext
      show (4 * (b.val / 128 % 8) + b.val / 32 % 4) * 32 + 1 * (b.val % 32) = b.val
      omega
    | ⟨1, _⟩ => apply Fin.ext; show 0 + 1 * t.val = t.val; omega
    | ⟨2, _⟩ => apply Fin.ext; show 0 + 1 * j.val = j.val; omega
  have hrow : chars (shapeCast S1x32x128x16 (KernelIdeal.inPay (F := Ideal) c a (Ring.bk 8 (b.val / 128)) (Ring.bk 4 (b.val / 32)))
      (by decide)) ⟨b.val % 32, Nat.mod_lt _ (by decide)⟩ t = row a b t := by
    funext j
    refine Eq.trans ?_ (hin j)
    unfold chars
    pointwise
  have hout : KernelIdeal.result (F := Ideal) c a (ix3 b t f)
      = KernelIdeal.outPay (F := Ideal) c a (Ring.bk 8 (b.val / 128)) (Ring.bk 4 (b.val / 32))
          (ix3 ⟨b.val % 32, Nat.mod_lt _ (by decide)⟩ t f) := by
    unfold KernelIdeal.result
    congr 1
    funext i
    match i with
    | ⟨0, _⟩ => rfl
    | ⟨1, _⟩ => rfl
    | ⟨2, _⟩ => rfl
  rw [hout]
  unfold KernelIdeal.outPay
  pointwise
  rw [chunk_apply _ _ _ (fun j => by rw [hrow]; exact ha _), hrow]

end Cert.Proof.Value

end
-- ==== Proof.Value.Reference.lean ====
/-
  What the reference computes, over the extended reals: the bits that its table holds for each row's codepoints, normalised.
-/
module

public import proofs.«01_k».proof.Proof.Value.Math
public import proofs.«01_k».proof.Proof.Gen.ReferenceIdeal.Run
public import Idealize.ShloMosaic.Lib.Pointwise

@[expose] public section

noncomputable section

namespace Cert.Proof.Value

open Cert.ReferenceIdeal Cert.ReferenceIdeal.Gen
open Idealize.ShloMosaic

/-! ## The reference in steps -/

/-- The rows that the reference looks up: a negative codepoint counts from the table's end. -/
def lookupIdx (a : IVec S1024x128x16 32) : IVec S1024x128x16x1 32 :=
  broadcastInDim S1024x128x16x1 ![0, 1, 2] bcast_S1024x128x16_S1024x128x16x1_0_1_2
    (select (cmpi .slt a (broadcastInDim S1024x128x16 ![] bcast_S_S1024x128x16 (constantI S_ 32 0#32)))
      (addi a (broadcastInDim S1024x128x16 ![] bcast_S_S1024x128x16 (constantI S_ 32 65536#32))) a)

/-- Whether such a row lies in the table. -/
def inTable (a : IVec S1024x128x16 32) : IVec S1024x128x16 1 :=
  Host.reduce IntOp.andi
    (andi (cmpi .sge (lookupIdx a) (broadcastInDim S1024x128x16x1 ![] bcast_S_S1024x128x16x1 (constantI S_ 32 0#32)))
      (cmpi .sle (lookupIdx a) (broadcastInDim S1024x128x16x1 ![0, 1, 2, 3] bcast_S1x1x1x1_S1024x128x16x1_0_1_2_3
        (broadcastInDim S1x1x1x1 ![3] bcast_S1_S1x1x1x1_3 (constantI S1 32 65535#32)))))
    (constantI S_ 1 1#1) reducesTo_S1024x128x16x1_S1024x128x16_d3 h_S_

/-- The bits looked up, 384 to a row. -/
def lookedUp (a : IVec S1024x128x16 32) (tb : FVec Ideal S65536x24 .f32) : FVec Ideal S1024x128x384 .f32 :=
  shapeCast _ (select (broadcastInDim S1024x128x16x24 ![0, 1, 2] bcast_S1024x128x16_S1024x128x16x24_0_1_2 (inTable a))
    (Host.gather gather_S65536x24_S1024x128x16x1_S1024x128x16x24_3_0_n_n_0_3_124 tb (lookupIdx a))
    (broadcastInDim S1024x128x16x24 ![] bcast_S_S1024x128x16x24 (constant S_ .f32 0x7FC00000#32)))
    shapeCasts_S1024x128x16x24_S1024x128x384

/-- Each row's sum over a count. -/
def rowMean (X : FVec Ideal S1024x128x384 .f32) (n : FVec Ideal S_ .f32) : FVec Ideal S1024x128x1 .f32 :=
  Host.divf (broadcastInDim S1024x128x1 ![0, 1] bcast_S1024x128_S1024x128x1_0_1
      (Host.reduceAdd X (constant S_ .f32 0x00000000#32) reducesTo_S1024x128x384_S1024x128_d2 h_S_))
    (broadcastInDim S1024x128x1 ![] bcast_S_S1024x128x1 n)

/-- Rows less their means. -/
def centred (X : FVec Ideal S1024x128x384 .f32) : FVec Ideal S1024x128x384 .f32 :=
  subf X (broadcastInDim S1024x128x384 ![0, 1, 2] bcast_S1024x128x1_S1024x128x384_0_1_2 (rowMean X (constant S_ .f32 0x43C00000#32)))

/-- The variance's count: 384 less a correction of 0. -/
def count : FVec Ideal S_ .f32 := subf (constant S_ .f32 0x43C00000#32) (sitofp .f32 (constantI S_ 32 0#32))

/-- Each row's variance, where the count is positive. -/
def rowVar (X : FVec Ideal S1024x128x384 .f32) : FVec Ideal S1024x128x1 .f32 :=
  select (broadcastInDim S1024x128x1 ![] bcast_S_S1024x128x1
      (cmpf .ogt count (constant S_ .f32 0x00000000#32)))
    (rowMean (mulf (centred X) (centred X)) count)
    (broadcastInDim S1024x128x1 ![] bcast_S_S1024x128x1 (id (constant S_ .f32 0x7FC00000#32)))

/-- Rows normalised, scaled and shifted. -/
def layerNorm (X : FVec Ideal S1024x128x384 .f32) (g b : FVec Ideal S384 .f32) : FVec Ideal S1024x128x384 .f32 :=
  addf (mulf (Host.divf (centred X)
        (broadcastInDim S1024x128x384 ![0, 1, 2] bcast_S1024x128x1_S1024x128x384_0_1_2
          (Host.sqrt (addf (rowVar X) (broadcastInDim S1024x128x1 ![] bcast_S_S1024x128x1 (constant S_ .f32 0x3A83126F#32))))))
      (broadcastInDim S1024x128x384 ![0, 1, 2] bcast_S1x1x384_S1024x128x384_0_1_2 (broadcastInDim S1x1x384 ![2] bcast_S384_S1x1x384_2 g)))
    (broadcastInDim S1024x128x384 ![0, 1, 2] bcast_S1x1x384_S1024x128x384_0_1_2 (broadcastInDim S1x1x384 ![2] bcast_S384_S1x1x384_2 b))

/-- The reference's result is these steps in turn. -/
theorem res_eq (m : (ℓ : Loc nD τ sig) → Buf (Elt Ideal) ℓ) (c : Dev nD) :
    Cert.ReferenceIdeal.Value.res_main_v19 (F := Ideal) m c
      = layerNorm (lookedUp (m ((c.tc : Thread nD τ).loc main_arg0)) (m ((c.tc : Thread nD τ).loc main_arg1)))
          (m ((c.tc : Thread nD τ).loc main_arg2)) (m ((c.tc : Thread nD τ).loc main_arg3)) := rfl

/-! ## The lookup -/

/-- A row of the table, looked up: the row that the index names, read signed and clamped into the table. -/
theorem gather_row (tb : FVec Ideal S65536x24 .f32) (idx : IVec S1024x128x16x1 32) (b : Fin 1024) (t : Fin 128) (j : Fin 16) (k : Fin 24) :
    Host.gather gather_S65536x24_S1024x128x16x1_S1024x128x16x24_3_0_n_n_0_3_124 tb idx (ix4 b t j k)
      = tb (ix2 ⟨min (idx (ix4 b t j 0)).toInt.toNat 65535, by omega⟩ k) := by
  unfold Host.gather
  congr 1
  funext i
  have hi : gather_S65536x24_S1024x128x16x1_S1024x128x16x24_3_0_n_n_0_3_124.siIdx (ix4 b t j k) ⟨0, by decide⟩ = ix4 b t j 0 := by
    funext a
    match a with
    | ⟨0, _⟩ => rfl
    | ⟨1, _⟩ => rfl
    | ⟨2, _⟩ => rfl
    | ⟨3, _⟩ => rfl
  match i with
  | ⟨0, _⟩ =>
    refine Fin.ext ?_
    refine Eq.trans ?_ (congrArg (fun q => min (idx q).toInt.toNat 65535) hi)
    rfl
  | ⟨1, _⟩ =>
    refine Fin.ext ?_
    show 0 + 0 + k.val = k.val
    omega

/-- Where the codepoints are below 65536, the index is the codepoint. -/
theorem lookupIdx_apply (a : IVec S1024x128x16 32) (ha : ∀ i, (a i).toNat < 65536) (b : Fin 1024) (t : Fin 128) (j : Fin 16) (z : Fin 1) :
    lookupIdx a (ix4 b t j z) = a (ix3 b t j) := by
  have h := ha (ix3 b t j)
  pointwise [lookupIdx]
  generalize a (ix3 b t j) = v at h ⊢
  have hn : v.slt 0#32 = false := by
    rw [BitVec.slt_eq_decide, decide_eq_false_iff_not, BitVec.toInt_eq_toNat_of_lt (by omega)]
    simp
  simp [Scalar.select, IntOp.cmpi, hn]

/-- And it lies in the table. -/
theorem inTable_apply (a : IVec S1024x128x16 32) (ha : ∀ i, (a i).toNat < 65536) (b : Fin 1024) (t : Fin 128) (j : Fin 16) :
    inTable a (ix3 b t j) = 1#1 := by
  have h := ha (ix3 b t j)
  pointwise [inTable]
  simp only [lookupIdx_apply a ha]
  generalize a (ix3 b t j) = v at h ⊢
  have hv : v.toInt = v.toNat := BitVec.toInt_eq_toNat_of_lt (by omega)
  have h0 : (0#32).sle v = true := by
    rw [BitVec.sle_eq_decide, decide_eq_true_iff, hv]
    simp
  have h1 : v.sle 65535#32 = true := by
    rw [BitVec.sle_eq_decide, decide_eq_true_iff, hv]
    show (v.toNat : ℤ) ≤ 65535
    omega
  simp [IntOp.cmpi, IntOp.andi, h0, h1]

/-- The bits looked up are the row's bits. -/
theorem lookedUp_apply (a : IVec S1024x128x16 32) (ha : ∀ i, (a i).toNat < 65536) (tb : FVec Ideal S65536x24 .f32)
    (htb : ∀ (v : Fin 65536) (k : Fin 24), tb (ix2 v k) = ((bit (BitVec.ofNat 32 v.val) k.val : ℝ) : EReal))
    (b : Fin 1024) (t : Fin 128) (f : Fin 384) :
    lookedUp a tb (ix3 b t f) = ((rowBit (fun j => a (ix3 b t j)) f : ℝ) : EReal) := by
  pointwise [lookedUp]
  rw [inTable_apply a ha, gather_row, htb]
  show ((bit _ _ : ℝ) : EReal) = _
  unfold rowBit
  congr 2
  dsimp only
  rw [lookupIdx_apply a ha]
  have h := ha (ix3 b t ⟨f.val / 24, by omega⟩)
  generalize a (ix3 b t ⟨f.val / 24, by omega⟩) = v at h ⊢
  rw [BitVec.toInt_eq_toNat_of_lt (by omega), Int.toNat_natCast, Nat.min_eq_left (by omega), BitVec.ofNat_toNat, BitVec.setWidth_eq]

/-! ## The normalisation -/

/-- A mean over 384 of real numbers. -/
theorem div_384 (x : ℝ) : Ideal.div (x : EReal) ((384 : ℝ) : EReal) = ((x / 384 : ℝ) : EReal) := by
  rw [Ideal.div_coe (by norm_num), ← EReal.coe_mul]
  congr 1
  ring

/-- The mean of a row of bits. -/
theorem rowMean_apply (X : FVec Ideal S1024x128x384 .f32) (n : FVec Ideal S_ .f32) (hn : n ix0 = ((384 : ℝ) : EReal)) (i : Fin 1024) (t : Fin 128)
    (x : Fin 384 → ℝ) (hX : ∀ f, X (ix3 i t f) = ((x f : ℝ) : EReal)) (z : Fin 1) :
    rowMean X n (ix3 i t z) = (((∑ f, x f) / 384 : ℝ) : EReal) := by
  pointwise [rowMean]
  simp only [hX]
  rw [coe_sum, hn, div_384]

/-- A row of bits less its mean. -/
theorem centred_apply (X : FVec Ideal S1024x128x384 .f32) (w : Fin 16 → BitVec 32) (i : Fin 1024) (t : Fin 128)
    (hX : ∀ f, X (ix3 i t f) = ((rowBit w f : ℝ) : EReal)) (f : Fin 384) :
    centred X (ix3 i t f) = ((rowBit w f - mean w : ℝ) : EReal) := by
  pointwise [centred]
  rw [rowMean_apply X _ ofBits_384 i t (rowBit w) hX, hX, ← EReal.coe_sub]
  rfl

/-- The variance's count is 384. -/
theorem count_eq : count ix0 = ((384 : ℝ) : EReal) := by
  show Ideal.ofBits .f32 0x43C00000#32 - (((0#32).toInt : ℝ) : EReal) = _
  rw [ofBits_384, ← EReal.coe_sub]
  simp

/-- The variance of a row of bits: its mean less the mean's square. -/
theorem rowVar_apply (X : FVec Ideal S1024x128x384 .f32) (w : Fin 16 → BitVec 32) (i : Fin 1024) (t : Fin 128)
    (hX : ∀ f, X (ix3 i t f) = ((rowBit w f : ℝ) : EReal)) (z : Fin 1) :
    rowVar X (ix3 i t z) = ((mean w - mean w * mean w : ℝ) : EReal) := by
  have hm := rowMean_apply (mulf (centred X) (centred X)) _ count_eq i t (fun f => (rowBit w f - mean w) * (rowBit w f - mean w))
    (fun f => by
      show centred X (ix3 i t f) * centred X (ix3 i t f) = _
      rw [centred_apply X w i t hX, ← EReal.coe_mul]) z
  rw [variance_eq] at hm
  have hc : broadcastInDim S1024x128x1 ![] bcast_S_S1024x128x1 (cmpf .ogt count (constant S_ .f32 0x00000000#32)) (ix3 i t z) = 1#1 := by
    pointwise
    rw [count_eq]
    show BitVec.ofBool (decide ((0 : EReal) < ((384 : ℝ) : EReal))) = _
    rw [decide_eq_true (by exact_mod_cast (by norm_num : (0 : ℝ) < 384))]
    rfl
  rw [← hm]
  unfold rowVar select
  rw [hc]
  rfl

/-- Where the scale is 1 and the shift 0, the reference normalises a row of bits. -/
theorem layerNorm_apply (X : FVec Ideal S1024x128x384 .f32) (g b : FVec Ideal S384 .f32) (w : Fin 16 → BitVec 32)
    (hg : ∀ f, g (ix1 f) = 1) (hb : ∀ f, b (ix1 f) = 0) (i : Fin 1024) (t : Fin 128)
    (hX : ∀ f, X (ix3 i t f) = ((rowBit w f : ℝ) : EReal)) (f : Fin 384) :
    layerNorm X g b (ix3 i t f) = ((normed w f : ℝ) : EReal) := by
  pointwise [layerNorm]
  rw [centred_apply X w i t hX, rowVar_apply X w i t hX, ofBits_eps, ← EReal.coe_add, Ideal.sqrt_coe, if_neg (not_lt.mpr (var_pos w).le), hg, hb,
    mul_one, add_zero]
  have hd : Real.sqrt (mean w - mean w * mean w + eps) ≠ 0 := (dev_pos w).ne'
  rw [Ideal.div_coe hd, ← EReal.coe_mul]
  congr 1
  unfold normed dev
  ring

end Cert.Proof.Value

end
-- ==== Proof.Value.SetUp.lean ====
/-
  What the precondition says of the arguments, element by element, and that the kernel and the reference then agree.
-/
module

public import proofs.«01_k».proof.Proof.Value.Kernel
public import proofs.«01_k».proof.Proof.Value.Reference
public import proofs.«01_k».proof.Proof.Gen.Pre_tables_as_set_up

@[expose] public section

noncomputable section

namespace Cert.Proof.Value

open Cert.Pre_tables_as_set_up Cert.Pre_tables_as_set_up.Gen
open Idealize.ShloMosaic

/-- A codepoint that the precondition admits is below 65536. -/
theorem codepoint_lt (a : IVec S1024x128x16 32) (tb : FVec Ideal S65536x24 .f32) (g b : FVec Ideal S384 .f32)
    (h : (fn (F := Ideal) a tb g b).1 = fun _ => 1#1) (i : S1024x128x16.Idx) : (a i).toNat < 65536 := by
  have hi : IntOp.andi (IntOp.cmpi .sge (a i) 0#32) (IntOp.cmpi .slt (a i) 65536#32) = 1#1 := congrFun h i
  generalize a i = v at hi ⊢
  simp only [IntOp.andi, IntOp.cmpi] at hi
  have h2 : (0#32).sle v = true ∧ v.slt 65536#32 = true := by
    revert hi
    cases (0#32).sle v <;> cases v.slt 65536#32 <;> simp
  obtain ⟨h0, h1⟩ := h2
  rw [BitVec.sle_eq_decide, decide_eq_true_iff] at h0
  rw [BitVec.slt_eq_decide, decide_eq_true_iff] at h1
  have e0 : (0#32).toInt = 0 := rfl
  have e1 : (65536#32).toInt = 65536 := rfl
  rw [e0] at h0
  rw [e1] at h1
  have hv := v.isLt
  rw [BitVec.toInt_eq_toNat_cond] at h0 h1
  split at h0 <;> omega

/-- Equality of extended reals, read off the comparison's bit. -/
theorem eq_of_oeq (x y : EReal) (h : Ideal.cmp .oeq x y = 1#1) : x = y := by
  by_contra hn
  have h' : BitVec.ofBool (decide (x = y)) = 1#1 := h
  rw [decide_eq_false hn] at h'
  exact absurd h' (by decide)

/-- The `k`-th binary digit of `v`, as the precondition works it out. -/
theorem digit_eq (v : Fin 65536) (k : Fin 24) :
    (((IntOp.andi (IntOp.shrsi .host (BitVec.ofNat 32 v.val) (BitVec.ofNat 32 k.val)) 1#32).toInt : ℝ) : EReal)
      = ((bit (BitVec.ofNat 32 v.val) k.val : ℝ) : EReal) := by
  have hk : (BitVec.ofNat 32 k.val).toNat = k.val := by
    rw [BitVec.toNat_ofNat]
    omega
  generalize BitVec.ofNat 32 v.val = x
  have hd : IntOp.andi (IntOp.shrsi .host x (BitVec.ofNat 32 k.val)) 1#32 = if x.getLsbD k.val then 1#32 else 0#32 := by
    unfold IntOp.andi IntOp.shrsi
    rw [hk, if_pos (by omega), BitVec.sshiftRight', hk]
    have hb : (x.sshiftRight k.val).getLsbD 0 = x.getLsbD k.val := by
      rw [BitVec.getLsbD_sshiftRight, Nat.add_zero, if_pos (by omega)]
      simp
    have h1 := BitVec.and_one_eq_setWidth_ofBool_getLsbD (x := x.sshiftRight k.val)
    rw [hb] at h1
    refine h1.trans ?_
    cases x.getLsbD k.val <;> rfl
  rw [hd, bit]
  congr 1
  split <;> norm_num

/-- The table holds each row number's binary digits. -/
theorem table_eq (a : IVec S1024x128x16 32) (tb : FVec Ideal S65536x24 .f32) (g b : FVec Ideal S384 .f32)
    (h : (fn (F := Ideal) a tb g b).2.1 = fun _ => 1#1) (v : Fin 65536) (k : Fin 24) :
    tb (ix2 v k) = ((bit (BitVec.ofNat 32 v.val) k.val : ℝ) : EReal) :=
  (eq_of_oeq _ _ (congrFun h (ix2 v k))).trans (digit_eq v k)

/-- The scale is 1. -/
theorem scale_eq (a : IVec S1024x128x16 32) (tb : FVec Ideal S65536x24 .f32) (g b : FVec Ideal S384 .f32)
    (h : (fn (F := Ideal) a tb g b).2.2.1 = fun _ => 1#1) (f : Fin 384) : g (ix1 f) = 1 :=
  (eq_of_oeq _ _ (congrFun h (ix1 f))).trans Ideal.ofBits_one_f32

/-- The shift is 0. -/
theorem shift_eq (a : IVec S1024x128x16 32) (tb : FVec Ideal S65536x24 .f32) (g b : FVec Ideal S384 .f32)
    (h : (fn (F := Ideal) a tb g b).2.2.2 = fun _ => 1#1) (f : Fin 384) : b (ix1 f) = 0 :=
  (eq_of_oeq _ _ (congrFun h (ix1 f))).trans Ideal.ofBits_zero_f32

/-- Under the precondition the kernel's result is the reference's: both are the normalised bits of each row's codepoints. -/
theorem agree (c : Dev Cert.KernelIdeal.nD) (a : IVec S1024x128x16 32) (tb : FVec Ideal S65536x24 .f32) (g b : FVec Ideal S384 .f32)
    (h0 : (fn (F := Ideal) a tb g b).1 = fun _ => 1#1) (h1 : (fn (F := Ideal) a tb g b).2.1 = fun _ => 1#1)
    (h2 : (fn (F := Ideal) a tb g b).2.2.1 = fun _ => 1#1) (h3 : (fn (F := Ideal) a tb g b).2.2.2 = fun _ => 1#1) :
    KernelIdeal.result (F := Ideal) c a = layerNorm (lookedUp a tb) g b := by
  funext j
  idx_vars j
  rw [result_apply c a (codepoint_lt a tb g b h0),
    layerNorm_apply _ _ _ _ (scale_eq a tb g b h2) (shift_eq a tb g b h3) _ _ (lookedUp_apply a (codepoint_lt a tb g b h0) tb (table_eq a tb g b h1) _ _)]
  rfl

end Cert.Proof.Value

end
-- ==== Proof.lean ====
/-
  The proof of `Cert.Claim` (proofs.«01_k».proof.Defs), assembled: the frames from the two programs' runs
  (Proof/Kernel/Run.lean, Proof/KernelIdeal/Run.lean) and the reference's, `preserves` by the named constant's rule, and
  `algebraic` by the two results' agreement (Proof/Value/SetUp.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tables_as_set_up
public import proofs.«01_k».proof.Proof.KernelIdeal.Run
public import proofs.«01_k».proof.Proof.Kernel.Run
public import proofs.«01_k».proof.Proof.Value.SetUp
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_p : Cert.quiescent_Kernel := fun m ρ _ =>
  (θ_run Cert.Kernel.defs _ _).mono (fun _ h => ⟨fun c => (h.1 c).2, h.2⟩) (Kernel.run_main (F := Bits) m ρ)

/-- So does the kernel over the extended reals. -/
theorem frame_pi : Cert.quiescent_KernelIdeal := fun m ρ _ =>
  (θ_run Cert.KernelIdeal.defs _ _).mono (fun _ h => ⟨fun c => (h.1 c).2, h.2⟩) (KernelIdeal.run_main (F := Ideal) m ρ)

/-- So does the reference, which declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one named constant is `1 / 384`, and its word rounds it. -/
theorem preserves : Cert.preserves_Kernel_KernelIdeal :=
  IdealRules.named_const.statement Cert.KernelIdeal.κ "inv_f" .f32 0x3B2AAAAB#32 ((1 / 384 : ℝ) : EReal) rfl

/-- The kernel over the extended reals, where the tables are as set up. -/
theorem frame_pi_pre : Cert.quiescent_KernelIdeal_pre_tables_as_set_up := fun m ρ _ => frame_pi m ρ trivial

/-- The reference, where the tables are as set up. -/
theorem frame_ri_pre : Cert.quiescent_ReferenceIdeal_pre_tables_as_set_up := fun m ρ _ => frame_ri m ρ trivial

/-- Where the tables are as set up, the kernel's result over the extended reals is the reference's. -/
theorem algebraic : Cert.algebraic_KernelIdeal_ReferenceIdeal_pre_tables_as_set_up := fun m ρ m' ρ' hpre hargs => by
  refine ⟨fun c => KernelIdeal.result (F := Ideal) c (KernelIdeal.cpAt m c), ?_, ?_⟩
  · exact (θ_run Cert.KernelIdeal.defs _ _).mono (fun _ h c => h.1 c) (KernelIdeal.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3⟩ := hargs c
    obtain ⟨p0, p1, p2, p3⟩ := hpre c
    rw [Value.res_eq, e0, e1, e2, e3]
    exact (Value.agree c _ _ _ _ p0 p1 p2 p3).symm

theorem claim : Cert.Claim :=
  ⟨Cert.Kernel.Gen.facts, Cert.KernelIdeal.Gen.facts, Cert.ReferenceIdeal.Gen.facts, Cert.Pre_tables_as_set_up.Gen.facts,
    frame_p, frame_pi, frame_pi_pre, frame_ri, frame_ri_pre, preserves, algebraic⟩

end Cert.Proof

end
